-- ==== Defs.lean ====
def Pre_Kernel [hPre_listed : Cert.Pre_listed.Facts] (m : (ℓ : Loc Cert.Kernel.nD Cert.Kernel.τ Cert.Kernel.sig) → Buf (Elt Bits) ℓ) : Prop :=
  ∀ c : Dev Cert.Kernel.nD,
    (Cert.Pre_listed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_listed : Cert.Pre_listed.Facts] (m : (ℓ : Loc Cert.KernelIdeal.nD Cert.KernelIdeal.τ Cert.KernelIdeal.sig) → Buf (Elt Ideal) ℓ) : Prop :=
  ∀ c : Dev Cert.KernelIdeal.nD,
    (Cert.Pre_listed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] [hPre_listed : Cert.Pre_listed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] [hPre_listed : Cert.Pre_listed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_listed : Cert.Pre_listed.Facts) (hPre_drawn : Cert.Pre_drawn.Facts),
    quiescent_Kernel (hKernel := hKernel) (hPre_listed := hPre_listed)
    ∧ quiescent_KernelIdeal (hKernelIdeal := hKernelIdeal) (hPre_listed := hPre_listed)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S2048x512 : Shape := ⟨2, ![2048, 512]⟩
abbrev S8192x512 : Shape := ⟨2, ![8192, 512]⟩
abbrev S2048x32 : Shape := ⟨2, ![2048, 32]⟩
abbrev S8 : Shape := ⟨1, ![8]⟩
abbrev S2048 : Shape := ⟨1, ![2048]⟩
abbrev S512x512 : Shape := ⟨2, ![512, 512]⟩
abbrev S512 : Shape := ⟨1, ![512]⟩
abbrev S512x2048 : Shape := ⟨2, ![512, 2048]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel
  bcast_S_S8 : S_.BroadcastsInDim S8 (![] : Fin 0 → Fin S8.rank)
  reducesTo_S8_S_d0 : S8.ReducesTo [0] S_
  bcast_S_S2048 : S_.BroadcastsInDim S2048 (![] : Fin 0 → Fin S2048.rank)
  reducesTo_S2048_S_d0 : S2048.ReducesTo [0] S_
  bcast_S_S8192x512 : S_.BroadcastsInDim S8192x512 (![] : Fin 0 → Fin S8192x512.rank)
  reducesTo_S8192x512_S_d0_1 : S8192x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_where {F : FTy → Type} [FloatOps F] (arg0 : IVec S2048 1) (arg1 : IVec S2048 32) (arg2 : IVec S2048 32) : IVec S2048 32 :=
  let v0 : IVec S2048 32 := select arg0 arg1 arg2
  v0

def fn_floor_divide {F : FTy → Type} [FloatOps F] (arg0 : IVec S2048 32) (arg1 : IVec S_ 32) : IVec S2048 32 :=
  let v0 : IVec S_ 32 := id arg1
  let v1 : IVec S2048 32 := broadcastInDim S2048 ![] bcast_S_S2048 v0
  let v2 : IVec S2048 32 := Host.divsi arg0 v1
  let v3 : IVec S2048 32 := signi arg0
  let v4 : IVec S_ 32 := signi v0
  let v5 : IVec S2048 32 := broadcastInDim S2048 ![] bcast_S_S2048 v4
  let v6 : IVec S2048 1 := cmpi .ne v3 v5
  let v7 : IVec S2048 32 := broadcastInDim S2048 ![] bcast_S_S2048 v0
  let v8 : IVec S2048 32 := Host.remsi arg0 v7
  let c : IVec S_ 32 := constantI S_ 32 0#32
  let v9 : IVec S2048 32 := broadcastInDim S2048 ![] bcast_S_S2048 c
  let v10 : IVec S2048 1 := cmpi .ne v8 v9
  let v11 : IVec S2048 1 := andi v6 v10
  let c_0 : IVec S_ 32 := constantI S_ 32 1#32
  let v12 : IVec S2048 32 := broadcastInDim S2048 ![] bcast_S_S2048 c_0
  let v13 : IVec S2048 32 := subi v2 v12
  let v14 : IVec S2048 32 := fn_where (F := F) v11 v13 v2
  v14

def fn_part2 {F : FTy → Type} [FloatOps F] (main_arg9 : FVec F S512 .f32) (main_v29 : IVec S_ 1) (main_v32 : IVec S512x512 1) (main_c_12 : IVec S_ 1) : IVec S_ 1 :=
  let main_v33 : IVec S_ 1 := (fun x v => Host.reduce IntOp.andi x v reducesTo_S512x512_S_d0_1 h_S_) main_v32 main_c_12
  let main_v34 : IVec S_ 1 := andi main_v29 main_v33
  let main_v35 : FVec F S512 .f32 := Host.absf main_arg9
  let main_cst_13 : FVec F S_ .f32 := constant S_ .f32 0x7F800000#32
  let main_v36 : FVec F S512 .f32 := broadcastInDim S512 ![] bcast_S_S512 main_cst_13
  let main_v37 : IVec S512 1 := cmpf .olt main_v35 main_v36
  let main_c_14 : IVec S_ 1 := constantI S_ 1 1#1
  let main_v38 : IVec S_ 1 := (fun x v => Host.reduce IntOp.andi x v reducesTo_S512_S_d0 h_S_) main_v37 main_c_14
  let main_v39 : IVec S_ 1 := andi main_v34 main_v38
  main_v39

def fn_part1 {F : FTy → Type} [FloatOps F] (main_arg6 : FVec F S512x512 .f32) (main_arg7 : FVec F S512 .f32) (main_arg8 : FVec F S512x512 .f32) (main_arg9 : FVec F S512 .f32) (main_v14 : IVec S_ 1) (main_v15 : FVec F S8192x512 .f32) (main_cst : FVec F S_ .f32) : IVec S_ 1 :=
  let main_v16 : FVec F S8192x512 .f32 := broadcastInDim S8192x512 ![] bcast_S_S8192x512 main_cst
  let main_v17 : IVec S8192x512 1 := cmpf .olt main_v15 main_v16
  let main_c_6 : IVec S_ 1 := constantI S_ 1 1#1
  let main_v18 : IVec S_ 1 := (fun x v => Host.reduce IntOp.andi x v reducesTo_S8192x512_S_d0_1 h_S_) main_v17 main_c_6
  let main_v19 : IVec S_ 1 := andi main_v14 main_v18
  let main_v20 : FVec F S512x512 .f32 := Host.absf main_arg6
  let main_cst_7 : FVec F S_ .f32 := constant S_ .f32 0x7F800000#32
  let main_v21 : FVec F S512x512 .f32 := broadcastInDim S512x512 ![] bcast_S_S512x512 main_cst_7
  let main_v22 : IVec S512x512 1 := cmpf .olt main_v20 main_v21
  let main_c_8 : IVec S_ 1 := constantI S_ 1 1#1
  let main_v23 : IVec S_ 1 := (fun x v => Host.reduce IntOp.andi x v reducesTo_S512x512_S_d0_1 h_S_) main_v22 main_c_8
  let main_v24 : IVec S_ 1 := andi main_v19 main_v23
  let main_v25 : FVec F S512 .f32 := Host.absf main_arg7
  let main_cst_9 : FVec F S_ .f32 := constant S_ .f32 0x7F800000#32
  let main_v26 : FVec F S512 .f32 := broadcastInDim S512 ![] bcast_S_S512 main_cst_9
  let main_v27 : IVec S512 1 := cmpf .olt main_v25 main_v26
  let main_c_10 : IVec S_ 1 := constantI S_ 1 1#1
  let main_v28 : IVec S_ 1 := (fun x v => Host.reduce IntOp.andi x v reducesTo_S512_S_d0 h_S_) main_v27 main_c_10
  let main_v29 : IVec S_ 1 := andi main_v24 main_v28
  let main_v30 : FVec F S512x512 .f32 := Host.absf main_arg8
  let main_cst_11 : FVec F S_ .f32 := constant S_ .f32 0x7F800000#32
  let main_v31 : FVec F S512x512 .f32 := broadcastInDim S512x512 ![] bcast_S_S512x512 main_cst_11
  let main_v32 : IVec S512x512 1 := cmpf .olt main_v30 main_v31
  let main_c_12 : IVec S_ 1 := constantI S_ 1 1#1
  fn_part2 (F := F) main_arg9 main_v29 main_v32 main_c_12

def fn {F : FTy → Type} [FloatOps F] (main_arg0 : FVec F S2048x512 .f32) (main_arg1 : FVec F S8192x512 .f32) (main_arg2 : IVec S2048x32 32) (main_arg3 : IVec S8 32) (main_arg4 : IVec S8 32) (main_arg5 : IVec S2048 32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x2048 .f32) (main_arg15 : FVec F S2048 .f32) (main_arg16 : FVec F S2048x512 .f32) (main_arg17 : FVec F S512 .f32) (main_arg18 : FVec F S512 .f32) (main_arg19 : FVec F S512 .f32) (main_arg20 : FVec F S512 .f32) (main_arg21 : FVec F S512 .f32) : IVec S_ 1 :=
  let main_c : IVec S_ 32 := constantI S_ 32 0#32
  let main_v0 : IVec S2048x32 32 := broadcastInDim S2048x32 ![] bcast_S_S2048x32 main_c
  let main_v1 : IVec S2048x32 1 := cmpi .sge main_arg2 main_v0
  let main_c_0 : IVec S_ 32 := constantI S_ 32 1024#32
  let main_v2 : IVec S2048x32 32 := broadcastInDim S2048x32 ![] bcast_S_S2048x32 main_c_0
  let main_v3 : IVec S2048x32 1 := cmpi .slt main_arg2 main_v2
  let main_v4 : IVec S2048x32 1 := andi main_v1 main_v3
  let main_c_1 : IVec S_ 1 := constantI S_ 1 1#1
  let main_v5 : IVec S_ 1 := (fun x v => Host.reduce IntOp.andi x v reducesTo_S2048x32_S_d0_1 h_S_) main_v4 main_c_1
  let main_c_2 : IVec S_ 32 := constantI S_ 32 1024#32
  let main_v6 : IVec S8 32 := broadcastInDim S8 ![] bcast_S_S8 main_c_2
  let main_v7 : IVec S8 1 := cmpi .eq main_arg4 main_v6
  let main_c_3 : IVec S_ 1 := constantI S_ 1 1#1
  let main_v8 : IVec S_ 1 := (fun x v => Host.reduce IntOp.andi x v reducesTo_S8_S_d0 h_S_) main_v7 main_c_3
  let main_v9 : IVec S_ 1 := andi main_v5 main_v8
  let main_v10 : IVec S2048 32 := iotaInDim S2048 32 0
  let main_c_4 : IVec S_ 32 := constantI S_ 32 256#32
  let main_v11 : IVec S2048 32 := fn_floor_divide (F := F) main_v10 main_c_4
  let main_v12 : IVec S2048 1 := cmpi .eq main_arg5 main_v11
  let main_c_5 : IVec S_ 1 := constantI S_ 1 1#1
  let main_v13 : IVec S_ 1 := (fun x v => Host.reduce IntOp.andi x v reducesTo_S2048_S_d0 h_S_) main_v12 main_c_5
  let main_v14 : IVec S_ 1 := andi main_v9 main_v13
  let main_v15 : FVec F S8192x512 .f32 := Host.absf main_arg1
  let main_cst : FVec F S_ .f32 := constant S_ .f32 0x7F800000#32
  fn_part1 (F := F) main_arg6 main_arg7 main_arg8 main_arg9 main_v14 main_v15 main_cst
-- ==== Pre_listed.lean ====
abbrev S2048x512 : Shape := ⟨2, ![2048, 512]⟩
abbrev S8192x512 : Shape := ⟨2, ![8192, 512]⟩
abbrev S2048x32 : Shape := ⟨2, ![2048, 32]⟩
abbrev S8 : Shape := ⟨1, ![8]⟩
abbrev S2048 : Shape := ⟨1, ![2048]⟩
abbrev S512x512 : Shape := ⟨2, ![512, 512]⟩
abbrev S512 : Shape := ⟨1, ![512]⟩
abbrev S512x2048 : Shape := ⟨2, ![512, 2048]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel

variable [Facts]

def fn {F : FTy → Type} [FloatOps F] (main_arg0 : FVec F S2048x512 .f32) (main_arg1 : FVec F S8192x512 .f32) (main_arg2 : IVec S2048x32 32) (main_arg3 : IVec S8 32) (main_arg4 : IVec S8 32) (main_arg5 : IVec S2048 32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x2048 .f32) (main_arg15 : FVec F S2048 .f32) (main_arg16 : FVec F S2048x512 .f32) (main_arg17 : FVec F S512 .f32) (main_arg18 : FVec F S512 .f32) (main_arg19 : FVec F S512 .f32) (main_arg20 : FVec F S512 .f32) (main_arg21 : FVec F S512 .f32) : IVec S_ 1 :=
  let main_c : IVec S_ 32 := constantI S_ 32 0#32
  let main_v0 : IVec S2048x32 32 := broadcastInDim S2048x32 ![] bcast_S_S2048x32 main_c
  let main_v1 : IVec S2048x32 1 := cmpi .sge main_arg2 main_v0
  let main_c_0 : IVec S_ 32 := constantI S_ 32 1024#32
  let main_v2 : IVec S2048x32 32 := broadcastInDim S2048x32 ![] bcast_S_S2048x32 main_c_0
  let main_v3 : IVec S2048x32 1 := cmpi .slt main_arg2 main_v2
  let main_v4 : IVec S2048x32 1 := andi main_v1 main_v3
  let main_c_1 : IVec S_ 1 := constantI S_ 1 1#1
  let main_v5 : IVec S_ 1 := (fun x v => Host.reduce IntOp.andi x v reducesTo_S2048x32_S_d0_1 h_S_) main_v4 main_c_1
  main_v5
-- ==== Kernel.lean ====
abbrev S2048x512 : Shape := ⟨2, ![2048, 512]⟩
abbrev S8192x512 : Shape := ⟨2, ![8192, 512]⟩
abbrev S2048x32 : Shape := ⟨2, ![2048, 32]⟩
abbrev S8 : Shape := ⟨1, ![8]⟩
abbrev S2048 : Shape := ⟨1, ![2048]⟩
abbrev S512x512 : Shape := ⟨2, ![512, 512]⟩
abbrev S512 : Shape := ⟨1, ![512]⟩
abbrev S512x2048 : Shape := ⟨2, ![512, 2048]⟩
abbrev S65536 : Shape := ⟨1, ![65536]⟩
abbrev S2097152 : Shape := ⟨1, ![2097152]⟩
abbrev S_ : Shape := ⟨0, ![]⟩
abbrev S16 : Shape := ⟨1, ![16]⟩
abbrev S2048x1024 : Shape := ⟨2, ![2048, 1024]⟩
abbrev S512x1024 : Shape := ⟨2, ![512, 1024]⟩
abbrev S1024 : Shape := ⟨1, ![1024]⟩
abbrev S1x1024 : Shape := ⟨2, ![1, 1024]⟩
abbrev S1x512 : Shape := ⟨2, ![1, 512]⟩
abbrev S1x2048 : Shape := ⟨2, ![1, 2048]⟩
abbrev S256x512 : Shape := ⟨2, ![256, 512]⟩
abbrev S1024x512 : Shape := ⟨2, ![1024, 512]⟩
abbrev S256x1024 : Shape := ⟨2, ![256, 1024]⟩
abbrev S1024x1024 : Shape := ⟨2, ![1024, 1024]⟩
abbrev S1024x8 : Shape := ⟨2, ![1024, 8]⟩
abbrev S256x64 : Shape := ⟨2, ![256, 64]⟩
abbrev S1024x64 : Shape := ⟨2, ![1024, 64]⟩
abbrev S256 : Shape := ⟨1, ![256]⟩
abbrev S256x1 : Shape := ⟨2, ![256, 1]⟩
abbrev S1024x72 : Shape := ⟨2, ![1024, 72]⟩
abbrev S256x72 : Shape := ⟨2, ![256, 72]⟩
abbrev S256x2048 : Shape := ⟨2, ![256, 2048]⟩

abbrev nBuf : Table → Nat
  | .hbm => 48
  | .local .tc .vmem => 22
  | .local .scVector .vmem => 2
  | _ => 0

abbrev bufTy : (tb : Table) → Fin (nBuf tb) → BufTy
  | .hbm, ⟨0, _⟩ => ⟨S2048x512, .f32⟩
  | .hbm, ⟨1, _⟩ => ⟨S8192x512, .f32⟩
  | .hbm, ⟨2, _⟩ => ⟨S2048x32, .i32⟩
  | .hbm, ⟨3, _⟩ => ⟨S8, .i32⟩
  | .hbm, ⟨4, _⟩ => ⟨S8, .i32⟩
  | .hbm, ⟨5, _⟩ => ⟨S2048, .i32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x2048, .f32⟩
  | .hbm, ⟨15, _⟩ => ⟨S2048, .f32⟩
  | .hbm, ⟨16, _⟩ => ⟨S2048x512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S65536, .i32⟩
  | .hbm, ⟨23, _⟩ => ⟨S2097152, .f32⟩
  | .hbm, ⟨24, _⟩ => ⟨S2048x1024, .f32⟩
  | .hbm, ⟨25, _⟩ => ⟨S512x1024, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512, .bf16⟩
  | .hbm, ⟨32, _⟩ => ⟨S1x512, .f32⟩
  | .hbm, ⟨33, _⟩ => ⟨S_, .f32⟩
  | .hbm, ⟨34, _⟩ => ⟨S1x512, .f32⟩
  | .hbm, ⟨35, _⟩ => ⟨S1x512, .f32⟩
  | .hbm, ⟨36, _⟩ => ⟨S512x1024, .bf16⟩
  | .hbm, ⟨37, _⟩ => ⟨S512x512, .bf16⟩
  | .hbm, ⟨38, _⟩ => ⟨S1x512, .f32⟩
  | .hbm, ⟨39, _⟩ => ⟨S512x2048, .bf16⟩
  | .hbm, ⟨40, _⟩ => ⟨S1x2048, .f32⟩
  | .hbm, ⟨41, _⟩ => ⟨S2048x512, .bf16⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S2048x512, .f32⟩
  | .local .tc .vmem, ⟨0, _⟩ => ⟨S256x512, .f32⟩
  | .local .tc .vmem, ⟨1, _⟩ => ⟨S256x512, .f32⟩
  | .local .tc .vmem, ⟨2, _⟩ => ⟨S1024x512, .f32⟩
  | .local .tc .vmem, ⟨3, _⟩ => ⟨S1024x512, .f32⟩
  | .local .tc .vmem, ⟨4, _⟩ => ⟨S256x1024, .f32⟩
  | .local .tc .vmem, ⟨5, _⟩ => ⟨S256x1024, .f32⟩
  | .local .tc .vmem, ⟨6, _⟩ => ⟨S512x512, .bf16⟩
  | .local .tc .vmem, ⟨7, _⟩ => ⟨S1x512, .f32⟩
  | .local .tc .vmem, ⟨8, _⟩ => ⟨S512x1024, .bf16⟩
  | .local .tc .vmem, ⟨9, _⟩ => ⟨S1x1024, .f32⟩
  | .local .tc .vmem, ⟨10, _⟩ => ⟨S512x512, .bf16⟩
  | .local .tc .vmem, ⟨11, _⟩ => ⟨S1x512, .f32⟩
  | .local .tc .vmem, ⟨12, _⟩ => ⟨S512x2048, .bf16⟩
  | .local .tc .vmem, ⟨13, _⟩ => ⟨S1x2048, .f32⟩
  | .local .tc .vmem, ⟨14, _⟩ => ⟨S2048x512, .bf16⟩
  | .local .tc .vmem, ⟨15, _⟩ => ⟨S1x512, .f32⟩
  | .local .tc .vmem, ⟨16, _⟩ => ⟨S1x512, .f32⟩
  | .local .tc .vmem, ⟨17, _⟩ => ⟨S1x512, .f32⟩
  | .local .tc .vmem, ⟨18, _⟩ => ⟨S1x512, .f32⟩
  | .local .tc .vmem, ⟨19, _⟩ => ⟨S1x512, .f32⟩
  | .local .tc .vmem, ⟨20, _⟩ => ⟨S256x512, .f32⟩
  | .local .tc .vmem, ⟨21, _⟩ => ⟨S256x512, .f32⟩
  | .local .scVector .vmem, ⟨0, _⟩ => ⟨S2048, .i32⟩
  | .local .scVector .vmem, ⟨1, _⟩ => ⟨S65536, .f32⟩
  | _, _ => ⟨S2048x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v0_scv : Ref sig .scVector := ⟨.hbm, 22, rfl⟩
abbrev main_v1_scv : Ref sig .scVector := ⟨.hbm, 23, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg13_0 : Ref sig .tc := ⟨.vmem, 16, rfl⟩
abbrev cc1_stg14_0 : Ref sig .tc := ⟨.vmem, 17, rfl⟩
abbrev cc1_stg15_0 : Ref sig .tc := ⟨.vmem, 18, rfl⟩
abbrev cc1_stg16_0 : Ref sig .tc := ⟨.vmem, 19, rfl⟩
abbrev cc1_stg17_0 : Ref sig .tc := ⟨.vmem, 20, rfl⟩
abbrev cc1_stg17_1 : Ref sig .tc := ⟨.vmem, 21, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem13_0 : DmaSem sig := 18
abbrev cc1_sem14_0 : DmaSem sig := 19
abbrev cc1_sem15_0 : DmaSem sig := 20
abbrev cc1_sem16_0 : DmaSem sig := 21
abbrev cc1_sem17_0 : DmaSem sig := 22
abbrev cc1_sem17_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32 : BitVec 32 := 32#32
  let v3 : BitVec 32 := Scalar.muli v2 c32_i32
  ![v3.toNat]
@[reducible] def k0_t1_loop : Scf.Loop 32 :=
  let c0_i32_0 : BitVec 32 := 0#32
  let c512_i32 : BitVec 32 := 512#32
  let v5 : BitVec 32 := Scalar.addi c0_i32_0 c512_i32
  let c1_i32 : BitVec 32 := 1#32
  ⟨c0_i32_0, v5, c1_i32⟩
def k0_off2 (k0_t1 : Fin k0_t1_loop.trips) (c0_i32_8 : BitVec 32) : Fin 1 → Nat :=
  let c0_i32_0 : BitVec 32 := 0#32
  let c1_i32 : BitVec 32 := 1#32
  let arg6 : BitVec 32 := Scf.iv c0_i32_0 c1_i32 k0_t1
  let c8_i32 : BitVec 32 := 8#32
  let v9 : BitVec 32 := Scalar.muli arg6 c8_i32
  let v10 : BitVec 32 := Scalar.addi v9 c0_i32_8
  let c16_i32 : BitVec 32 := 16#32
  let v11 : BitVec 32 := Scalar.muli v10 c16_i32
  let v12 : Index := Scalar.indexCast v11
  ![v12.toNat]
@[reducible] def k0_t2_loop : Scf.Loop 32 :=
  let c0_i32_4 : BitVec 32 := 0#32
  let c64_i32_5 : BitVec 32 := 64#32
  let v7 : BitVec 32 := Scalar.addi c0_i32_4 c64_i32_5
  let c1_i32_6 : BitVec 32 := 1#32
  ⟨c0_i32_4, v7, c1_i32_6⟩
def k0_off3 (k0_t2 : Fin k0_t2_loop.trips) : Fin 1 → Nat :=
  let c0_i32_4 : BitVec 32 := 0#32
  let c1_i32_6 : BitVec 32 := 1#32
  let arg6 : BitVec 32 := Scf.iv c0_i32_4 c1_i32_6 k0_t2
  let c32_i32_8 : BitVec 32 := 32#32
  let v9 : BitVec 32 := Scalar.muli arg6 c32_i32_8
  let c0_i32_9 : BitVec 32 := 0#32
  let v10 : BitVec 32 := Scalar.addi v9 c0_i32_9
  let v11 : Index := Scalar.indexCast v10
  ![v11.toNat]

def k0_chk1 (v15 : IVec S16 32) : Prop :=
  (∀ a x, ((![v15] : Fin 1 → IVec S16 32) a x).toNat < S65536.size a)
theorem k0_idx1_inb : ∀ (v15 : IVec S16 32) (k0_hw1 : k0_chk1 v15), ∀ a x, ((![v15] : Fin 1 → IVec S16 32) a x).toNat < S65536.size a := fun v15 k0_hw1 => k0_hw1
def k0_off4 (k0_t2 : Fin k0_t2_loop.trips) : Fin 1 → Nat :=
  let c0_i32_4 : BitVec 32 := 0#32
  let c1_i32_6 : BitVec 32 := 1#32
  let arg6 : BitVec 32 := Scf.iv c0_i32_4 c1_i32_6 k0_t2
  let c32_i32_11 : BitVec 32 := 32#32
  let v16 : BitVec 32 := Scalar.muli arg6 c32_i32_11
  let c16_i32 : BitVec 32 := 16#32
  let v17 : BitVec 32 := Scalar.addi v16 c16_i32
  let v18 : Index := Scalar.indexCast v17
  ![v18.toNat]

def k0_chk2 (v22 : IVec S16 32) : Prop :=
  (∀ a x, ((![v22] : Fin 1 → IVec S16 32) a x).toNat < S65536.size a)
theorem k0_idx2_inb : ∀ (v22 : IVec S16 32) (k0_hw2 : k0_chk2 v22), ∀ a x, ((![v22] : Fin 1 → IVec S16 32) a x).toNat < S65536.size a := fun v22 k0_hw2 => k0_hw2
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c1024_i32 : BitVec 32 := 1024#32
  let v8 : BitVec 32 := Scalar.muli v2 c1024_i32
  ![v8.toNat]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2048x512 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x512 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S256x512 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x512 : Shape := ⟨2, ![2048, 512]⟩
abbrev S8192x512 : Shape := ⟨2, ![8192, 512]⟩
abbrev S2048x32 : Shape := ⟨2, ![2048, 32]⟩
abbrev S8 : Shape := ⟨1, ![8]⟩
abbrev S2048 : Shape := ⟨1, ![2048]⟩
abbrev S512x512 : Shape := ⟨2, ![512, 512]⟩
abbrev S512 : Shape := ⟨1, ![512]⟩
abbrev S512x2048 : Shape := ⟨2, ![512, 2048]⟩
abbrev S1x512 : Shape := ⟨2, ![1, 512]⟩
abbrev S_ : Shape := ⟨0, ![]⟩
abbrev S1 : Shape := ⟨1, ![1]⟩
abbrev S7 : Shape := ⟨1, ![7]⟩
abbrev S2048x1 : Shape := ⟨2, ![2048, 1]⟩
abbrev S2048x32x1 : Shape := ⟨3, ![2048, 32, 1]⟩
abbrev S1x1x1 : Shape := ⟨3, ![1, 1, 1]⟩
abbrev S2048x32x512 : Shape := ⟨3, ![2048, 32, 512]⟩
abbrev S2048x8x64 : Shape := ⟨3, ![2048, 8, 64]⟩
abbrev S2048x32x8x64 : Shape := ⟨4, ![2048, 32, 8, 64]⟩
abbrev S2048x8x32 : Shape := ⟨3, ![2048, 8, 32]⟩
abbrev S2048x1x32 : Shape := ⟨3, ![2048, 1, 32]⟩
abbrev S2048x8 : Shape := ⟨2, ![2048, 8]⟩
abbrev S2048x8x1 : Shape := ⟨3, ![2048, 8, 1]⟩
abbrev S2048x2048 : Shape := ⟨2, ![2048, 2048]⟩
abbrev S1x2048 : Shape := ⟨2, ![1, 2048]⟩

abbrev nBuf : Space → Nat
  | .hbm => 239
  | .vmem => 0
  | .smem => 0
  | _ => 0

abbrev hbmTy0_0 (i : Nat) : BufTy := match i % 128 with
  | 0 => ⟨S2048x512, .f32⟩
  | 1 => ⟨S8192x512, .f32⟩
  | 2 => ⟨S2048x32, .i32⟩
  | 3 => ⟨S8, .i32⟩
  | 4 => ⟨S8, .i32⟩
  | 5 => ⟨S2048, .i32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S512x512, .f32⟩
  | 13 => ⟨S512, .f32⟩
  | 14 => ⟨S512x2048, .f32⟩
  | 15 => ⟨S2048, .f32⟩
  | 16 => ⟨S2048x512, .f32⟩
  | 17 => ⟨S512, .f32⟩
  | 18 => ⟨S512, .f32⟩
  | 19 => ⟨S512, .f32⟩
  | 20 => ⟨S512, .f32⟩
  | 21 => ⟨S512, .f32⟩
  | 22 => ⟨S2048x512, .f32⟩
  | 23 => ⟨S1x512, .f32⟩
  | 24 => ⟨S2048x512, .f32⟩
  | 25 => ⟨S2048x512, .f32⟩
  | 26 => ⟨S8192x512, .f32⟩
  | 27 => ⟨S1x512, .f32⟩
  | 28 => ⟨S8192x512, .f32⟩
  | 29 => ⟨S8192x512, .f32⟩
  | 30 => ⟨S8192x512, .f32⟩
  | 31 => ⟨S1x512, .f32⟩
  | 32 => ⟨S8192x512, .f32⟩
  | 33 => ⟨S8192x512, .f32⟩
  | 34 => ⟨S_, .i32⟩
  | 35 => ⟨S1, .i32⟩
  | 36 => ⟨S_, .i32⟩
  | 37 => ⟨S_, .i32⟩
  | 38 => ⟨S8, .i32⟩
  | 39 => ⟨S7, .i32⟩
  | 40 => ⟨S8, .i32⟩
  | 41 => ⟨S_, .i32⟩
  | 42 => ⟨S2048, .i32⟩
  | 43 => ⟨S2048, .i1⟩
  | 44 => ⟨S_, .i32⟩
  | 45 => ⟨S2048, .i32⟩
  | 46 => ⟨S2048, .i32⟩
  | 47 => ⟨S2048, .i32⟩
  | 48 => ⟨S2048x1, .i32⟩
  | 49 => ⟨S2048, .i32⟩
  | 50 => ⟨S_, .i32⟩
  | 51 => ⟨S2048x32, .i32⟩
  | 52 => ⟨S2048x32, .i1⟩
  | 53 => ⟨S_, .i32⟩
  | 54 => ⟨S_, .i32⟩
  | 55 => ⟨S2048x32, .i32⟩
  | 56 => ⟨S2048x32, .i32⟩
  | 57 => ⟨S2048x1, .i32⟩
  | 58 => ⟨S2048x32, .i32⟩
  | 59 => ⟨S2048x32, .i32⟩
  | 60 => ⟨S_, .i32⟩
  | 61 => ⟨S2048x32, .i32⟩
  | 62 => ⟨S2048x32, .i1⟩
  | 63 => ⟨S_, .i32⟩
  | 64 => ⟨S2048x32, .i32⟩
  | 65 => ⟨S2048x32, .i32⟩
  | 66 => ⟨S2048x32, .i32⟩
  | 67 => ⟨S2048x32x1, .i32⟩
  | 68 => ⟨S1, .i32⟩
  | 69 => ⟨S_, .i32⟩
  | 70 => ⟨S2048x32x1, .i32⟩
  | 71 => ⟨S2048x32x1, .i1⟩
  | 72 => ⟨S1x1x1, .i32⟩
  | 73 => ⟨S2048x32x1, .i32⟩
  | 74 => ⟨S2048x32x1, .i1⟩
  | 75 => ⟨S2048x32x1, .i1⟩
  | 76 => ⟨S_, .i1⟩
  | 77 => ⟨S2048x32, .i1⟩
  | 78 => ⟨S2048x32x512, .f32⟩
  | 79 => ⟨S2048x32x512, .i1⟩
  | 80 => ⟨S_, .f32⟩
  | 81 => ⟨S2048x32x512, .f32⟩
  | 82 => ⟨S2048x32x512, .f32⟩
  | 83 => ⟨S_, .i32⟩
  | 84 => ⟨S2048x32, .i32⟩
  | 85 => ⟨S2048x32, .i1⟩
  | 86 => ⟨S_, .i32⟩
  | 87 => ⟨S2048x32, .i32⟩
  | 88 => ⟨S2048x32, .i32⟩
  | 89 => ⟨S2048x32, .i32⟩
  | 90 => ⟨S2048x32x1, .i32⟩
  | 91 => ⟨S1, .i32⟩
  | 92 => ⟨S_, .i32⟩
  | 93 => ⟨S2048x32x1, .i32⟩
  | 94 => ⟨S2048x32x1, .i1⟩
  | 95 => ⟨S1x1x1, .i32⟩
  | 96 => ⟨S2048x32x1, .i32⟩
  | 97 => ⟨S2048x32x1, .i1⟩
  | 98 => ⟨S2048x32x1, .i1⟩
  | 99 => ⟨S_, .i1⟩
  | 100 => ⟨S2048x32, .i1⟩
  | 101 => ⟨S2048x32x512, .f32⟩
  | 102 => ⟨S2048x32x512, .i1⟩
  | 103 => ⟨S_, .f32⟩
  | 104 => ⟨S2048x32x512, .f32⟩
  | 105 => ⟨S2048x32x512, .f32⟩
  | 106 => ⟨S2048x8x64, .f32⟩
  | 107 => ⟨S2048x32x8x64, .f32⟩
  | 108 => ⟨S2048x32x8x64, .f32⟩
  | 109 => ⟨S2048x8x32, .f32⟩
  | 110 => ⟨S_, .f32⟩
  | 111 => ⟨S2048x8x32, .f32⟩
  | 112 => ⟨S2048x8x32, .f32⟩
  | 113 => ⟨S2048x1x32, .i1⟩
  | 114 => ⟨S_, .f32⟩
  | 115 => ⟨S2048x8x32, .i1⟩
  | 116 => ⟨S2048x8x32, .f32⟩
  | 117 => ⟨S2048x8x32, .f32⟩
  | 118 => ⟨S_, .f32⟩
  | 119 => ⟨S2048x8, .f32⟩
  | 120 => ⟨S_, .f32⟩
  | 121 => ⟨S2048x8, .f32⟩
  | 122 => ⟨S2048x8, .f32⟩
  | 123 => ⟨S2048x8x1, .f32⟩
  | 124 => ⟨S2048x8x32, .f32⟩
  | 125 => ⟨S2048x8x32, .f32⟩
  | 126 => ⟨S2048x8x32, .f32⟩
  | 127 => ⟨S_, .f32⟩
  | _ => ⟨S2048x512, .f32⟩

abbrev hbmTy0_1 (i : Nat) : BufTy := match i % 128 with
  | 0 => ⟨S2048x8, .f32⟩
  | 1 => ⟨S2048x8x1, .f32⟩
  | 2 => ⟨S2048x8x32, .f32⟩
  | 3 => ⟨S2048x8x32, .f32⟩
  | 4 => ⟨S2048x8x64, .f32⟩
  | 5 => ⟨S2048x512, .f32⟩
  | 6 => ⟨S2048x512, .f32⟩
  | 7 => ⟨S1x512, .f32⟩
  | 8 => ⟨S2048x512, .f32⟩
  | 9 => ⟨S2048x512, .f32⟩
  | 10 => ⟨S2048x512, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .i32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x512, .f32⟩
  | 25 => ⟨S2048x512, .f32⟩
  | 26 => ⟨S2048x512, .f32⟩
  | 27 => ⟨S_, .f32⟩
  | 28 => ⟨S_, .f32⟩
  | 29 => ⟨S_, .f32⟩
  | 30 => ⟨S_, .f32⟩
  | 31 => ⟨S2048, .f32⟩
  | 32 => ⟨S2048x1, .f32⟩
  | 33 => ⟨S2048x1, .f32⟩
  | 34 => ⟨S2048x1, .f32⟩
  | 35 => ⟨S_, .f32⟩
  | 36 => ⟨S_, .i1⟩
  | 37 => ⟨S_, .f32⟩
  | 38 => ⟨S_, .f32⟩
  | 39 => ⟨S2048x1, .f32⟩
  | 40 => ⟨S2048x1, .f32⟩
  | 41 => ⟨S2048x512, .f32⟩
  | 42 => ⟨S2048x512, .f32⟩
  | 43 => ⟨S_, .f32⟩
  | 44 => ⟨S2048x1, .f32⟩
  | 45 => ⟨S2048x1, .f32⟩
  | 46 => ⟨S2048x1, .f32⟩
  | 47 => ⟨S2048x512, .f32⟩
  | 48 => ⟨S2048x512, .f32⟩
  | 49 => ⟨S1x512, .f32⟩
  | 50 => ⟨S2048x512, .f32⟩
  | 51 => ⟨S2048x512, .f32⟩
  | 52 => ⟨S1x512, .f32⟩
  | 53 => ⟨S2048x512, .f32⟩
  | 54 => ⟨S2048x512, .f32⟩
  | 55 => ⟨S2048x2048, .f32⟩
  | 56 => ⟨S1x2048, .f32⟩
  | 57 => ⟨S2048x2048, .f32⟩
  | 58 => ⟨S2048x2048, .f32⟩
  | 59 => ⟨S_, .f32⟩
  | 60 => ⟨S2048x2048, .f32⟩
  | 61 => ⟨S2048x2048, .f32⟩
  | 62 => ⟨S2048x512, .f32⟩
  | 63 => ⟨S1x512, .f32⟩
  | 64 => ⟨S2048x512, .f32⟩
  | 65 => ⟨S2048x512, .f32⟩
  | 66 => ⟨S2048x512, .f32⟩
  | 67 => ⟨S_, .f32⟩
  | 68 => ⟨S2048, .f32⟩
  | 69 => ⟨S2048x1, .f32⟩
  | 70 => ⟨S_, .f32⟩
  | 71 => ⟨S2048x1, .f32⟩
  | 72 => ⟨S2048x1, .f32⟩
  | 73 => ⟨S_, .i32⟩
  | 74 => ⟨S_, .f32⟩
  | 75 => ⟨S2048, .f32⟩
  | 76 => ⟨S2048x1, .f32⟩
  | 77 => ⟨S_, .f32⟩
  | 78 => ⟨S2048x1, .f32⟩
  | 79 => ⟨S2048x1, .f32⟩
  | 80 => ⟨S2048x512, .f32⟩
  | 81 => ⟨S2048x512, .f32⟩
  | 82 => ⟨S2048x512, .f32⟩
  | 83 => ⟨S_, .f32⟩
  | 84 => ⟨S_, .f32⟩
  | 85 => ⟨S_, .f32⟩
  | 86 => ⟨S_, .f32⟩
  | 87 => ⟨S2048, .f32⟩
  | 88 => ⟨S2048x1, .f32⟩
  | 89 => ⟨S2048x1, .f32⟩
  | 90 => ⟨S2048x1, .f32⟩
  | 91 => ⟨S_, .f32⟩
  | 92 => ⟨S_, .i1⟩
  | 93 => ⟨S_, .f32⟩
  | 94 => ⟨S_, .f32⟩
  | 95 => ⟨S2048x1, .f32⟩
  | 96 => ⟨S2048x1, .f32⟩
  | 97 => ⟨S2048x512, .f32⟩
  | 98 => ⟨S2048x512, .f32⟩
  | 99 => ⟨S_, .f32⟩
  | 100 => ⟨S2048x1, .f32⟩
  | 101 => ⟨S2048x1, .f32⟩
  | 102 => ⟨S2048x1, .f32⟩
  | 103 => ⟨S2048x512, .f32⟩
  | 104 => ⟨S2048x512, .f32⟩
  | 105 => ⟨S1x512, .f32⟩
  | 106 => ⟨S2048x512, .f32⟩
  | 107 => ⟨S2048x512, .f32⟩
  | 108 => ⟨S1x512, .f32⟩
  | 109 => ⟨S2048x512, .f32⟩
  | 110 => ⟨S2048x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_call0_call0_c : Ref sig .tc := ⟨.hbm, 36, rfl⟩
abbrev main_call0_call0_v0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_0 : Ref sig .tc := ⟨.hbm, 41, rfl⟩
abbrev main_v16 : Ref sig .tc := ⟨.hbm, 42, rfl⟩
abbrev main_v17 : Ref sig .tc := ⟨.hbm, 43, rfl⟩
abbrev main_c_1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_2 : Ref sig .tc := ⟨.hbm, 50, rfl⟩
abbrev main_v23 : Ref sig .tc := ⟨.hbm, 51, rfl⟩
abbrev main_v24 : Ref sig .tc := ⟨.hbm, 52, rfl⟩
abbrev main_c_3 : Ref sig .tc := ⟨.hbm, 53, rfl⟩
abbrev main_call1_v0 : Ref sig .tc := ⟨.hbm, 54, rfl⟩
abbrev main_call1_v1 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v29 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_cst : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_cst_4 : Ref sig .tc := ⟨.hbm, 114, rfl⟩
abbrev main_call4_v0 : Ref sig .tc := ⟨.hbm, 115, rfl⟩
abbrev main_call4_v1 : Ref sig .tc := ⟨.hbm, 116, rfl⟩
abbrev main_v38 : Ref sig .tc := ⟨.hbm, 117, rfl⟩
abbrev main_cst_5 : Ref sig .tc := ⟨.hbm, 118, rfl⟩
abbrev main_v39 : Ref sig .tc := ⟨.hbm, 119, rfl⟩
abbrev main_cst_6 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_cst_7 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_cst_8 : Ref sig .tc := ⟨.hbm, 139, rfl⟩
abbrev main_v57 : Ref sig .tc := ⟨.hbm, 140, rfl⟩
abbrev main_v58 : Ref sig .tc := ⟨.hbm, 141, rfl⟩
abbrev main_cst_9 : Ref sig .tc := ⟨.hbm, 142, rfl⟩
abbrev main_v59 : Ref sig .tc := ⟨.hbm, 143, rfl⟩
abbrev main_v60 : Ref sig .tc := ⟨.hbm, 144, rfl⟩
abbrev main_c_10 : Ref sig .tc := ⟨.hbm, 145, rfl⟩
abbrev main_call5_cst : Ref sig .tc := ⟨.hbm, 146, rfl⟩
abbrev main_call5_v0 : Ref sig .tc := ⟨.hbm, 147, rfl⟩
abbrev main_call5_v1 : Ref sig .tc := ⟨.hbm, 148, rfl⟩
abbrev main_call5_cst_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_v6 : Ref sig .tc := ⟨.hbm, 154, rfl⟩
abbrev main_call5_v7 : Ref sig .tc := ⟨.hbm, 155, rfl⟩
abbrev main_call5_cst_1 : Ref sig .tc := ⟨.hbm, 156, rfl⟩
abbrev main_call5_v8 : Ref sig .tc := ⟨.hbm, 157, rfl⟩
abbrev main_call5_cst_2 : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_v12 : Ref sig .tc := ⟨.hbm, 162, rfl⟩
abbrev main_call5_cst_3 : Ref sig .tc := ⟨.hbm, 163, rfl⟩
abbrev main_call5_v13 : Ref sig .tc := ⟨.hbm, 164, rfl⟩
abbrev main_call5_cst_4 : Ref sig .tc := ⟨.hbm, 165, rfl⟩
abbrev main_call5_call0_v0 : Ref sig .tc := ⟨.hbm, 166, rfl⟩
abbrev main_call5_call0_v1 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_cst_11 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_call6_cst : Ref sig .tc := ⟨.hbm, 187, rfl⟩
abbrev main_call6_v0 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_cst_12 : Ref sig .tc := ⟨.hbm, 195, rfl⟩
abbrev main_v85 : Ref sig .tc := ⟨.hbm, 196, rfl⟩
abbrev main_v86 : Ref sig .tc := ⟨.hbm, 197, rfl⟩
abbrev main_cst_13 : Ref sig .tc := ⟨.hbm, 198, rfl⟩
abbrev main_v87 : Ref sig .tc := ⟨.hbm, 199, rfl⟩
abbrev main_v88 : Ref sig .tc := ⟨.hbm, 200, rfl⟩
abbrev main_c_14 : Ref sig .tc := ⟨.hbm, 201, rfl⟩
abbrev main_call7_cst : Ref sig .tc := ⟨.hbm, 202, rfl⟩
abbrev main_call7_v0 : Ref sig .tc := ⟨.hbm, 203, rfl⟩
abbrev main_call7_v1 : Ref sig .tc := ⟨.hbm, 204, rfl⟩
abbrev main_call7_cst_0 : Ref sig .tc := ⟨.hbm, 205, rfl⟩
abbrev main_call7_v2 : Ref sig .tc := ⟨.hbm, 206, rfl⟩
abbrev main_call7_v3 : Ref sig .tc := ⟨.hbm, 207, rfl⟩
abbrev main_call7_v4 : Ref sig .tc := ⟨.hbm, 208, rfl⟩
abbrev main_call7_v5 : Ref sig .tc := ⟨.hbm, 209, rfl⟩
abbrev main_call7_v6 : Ref sig .tc := ⟨.hbm, 210, rfl⟩
abbrev main_call7_v7 : Ref sig .tc := ⟨.hbm, 211, rfl⟩
abbrev main_call7_cst_1 : Ref sig .tc := ⟨.hbm, 212, rfl⟩
abbrev main_call7_v8 : Ref sig .tc := ⟨.hbm, 213, rfl⟩
abbrev main_call7_cst_2 : Ref sig .tc := ⟨.hbm, 214, rfl⟩
abbrev main_call7_v9 : Ref sig .tc := ⟨.hbm, 215, rfl⟩
abbrev main_call7_v10 : Ref sig .tc := ⟨.hbm, 216, rfl⟩
abbrev main_call7_v11 : Ref sig .tc := ⟨.hbm, 217, rfl⟩
abbrev main_call7_v12 : Ref sig .tc := ⟨.hbm, 218, rfl⟩
abbrev main_call7_cst_3 : Ref sig .tc := ⟨.hbm, 219, rfl⟩
abbrev main_call7_v13 : Ref sig .tc := ⟨.hbm, 220, rfl⟩
abbrev main_call7_cst_4 : Ref sig .tc := ⟨.hbm, 221, rfl⟩
abbrev main_call7_call0_v0 : Ref sig .tc := ⟨.hbm, 222, rfl⟩
abbrev main_call7_call0_v1 : Ref sig .tc := ⟨.hbm, 223, rfl⟩
abbrev main_v89 : Ref sig .tc := ⟨.hbm, 224, rfl⟩
abbrev main_v90 : Ref sig .tc := ⟨.hbm, 225, rfl⟩
abbrev main_v91 : Ref sig .tc := ⟨.hbm, 226, rfl⟩
abbrev main_cst_15 : Ref sig .tc := ⟨.hbm, 227, rfl⟩
abbrev main_v92 : Ref sig .tc := ⟨.hbm, 228, rfl⟩
abbrev main_v93 : Ref sig .tc := ⟨.hbm, 229, rfl⟩
abbrev main_v94 : Ref sig .tc := ⟨.hbm, 230, rfl⟩
abbrev main_v95 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩

abbrev nD : Nat := 1
abbrev τ : Topo := Topo.v7x

variable {F : FTy → Type} [FloatOps F]
-- ==== Proof.Pre.lean ====
/-
  What the precondition says of the arguments: the indices lie below 1024, every batch has 1024 keys, the batch of a
  query is its number divided by 256, and the eight float arguments the scores are made of are finite.
-/
module

public import proofs.«01_k».proof.Pre_drawn
public import proofs.«01_k».proof.Pre_listed
public import Idealize.ShloMosaic.Lib.ReduceAll
public import Idealize.ShloMosaic.Lib.Affine
public import Idealize.ShloMosaic.Lib.WordCmp
public import Idealize.ShloMosaic.Lib.ValueIdx
public import Idealize.ShloMosaic.Lib.IdealHost

@[expose] public section

noncomputable section

namespace Cert.Proof.Pre

open Idealize.ShloMosaic Idealize.ShloMosaic.ValueIdx
open Cert.Pre_drawn

/-- The shapes of the index range's operations fit. -/
theorem listed_facts : Cert.Pre_listed.Facts where
  bcast_S_S2048x32 := by decide
  reducesTo_S2048x32_S_d0_1 := by decide
  h_S_ := by decide

variable [Cert.Pre_drawn.Facts]

instance : Subsingleton S_.Idx := ⟨fun a b => funext fun i => i.elim0⟩

/-- The word the precondition compares a query's batch with: its number divided by 256. -/
theorem batch_word : ∀ n : Fin 2048,
    (let x : BitVec 32 := BitVec.ofNat 32 n.val
     Scalar.select (IntOp.andi (IntOp.cmpi .ne (if x = 0 then (0 : BitVec 32) else if x.msb then -1 else 1)
        (if (256#32 : BitVec 32) = 0 then (0 : BitVec 32) else if (256#32 : BitVec 32).msb then -1 else 1))
        (IntOp.cmpi .ne (x.srem 256#32) 0#32)) (x.sdiv 256#32 - 1#32) (x.sdiv 256#32)) = BitVec.ofNat 32 (n.val / 256) := by
  decide +kernel

section
variable {F : FTy → Type} [FloatOps F]

/-- What is said of the integer arguments and, as words of a comparison, of the float ones. -/
structure Read (a1 : FVec F S8192x512 .f32) (a2 : IVec S2048x32 32) (a4 : IVec S8 32) (a5 : IVec S2048 32)
    (a6 : FVec F S512x512 .f32) (a7 : FVec F S512 .f32) (a8 : FVec F S512x512 .f32) (a9 : FVec F S512 .f32) : Prop where
  idx : ∀ i, (a2 i).toNat < 1024
  cnt : ∀ i, a4 i = 1024#32
  batch : ∀ n : Fin 2048, a5 (ix1 n) = BitVec.ofNat 32 (n.val / 256)
  f1 : ∀ i, FloatOps.cmpf .olt (FloatOps.hostAbsf (a1 i)) (FloatOps.ofBits .f32 0x7F800000#32) = 1#1
  f6 : ∀ i, FloatOps.cmpf .olt (FloatOps.hostAbsf (a6 i)) (FloatOps.ofBits .f32 0x7F800000#32) = 1#1
  f7 : ∀ i, FloatOps.cmpf .olt (FloatOps.hostAbsf (a7 i)) (FloatOps.ofBits .f32 0x7F800000#32) = 1#1
  f8 : ∀ i, FloatOps.cmpf .olt (FloatOps.hostAbsf (a8 i)) (FloatOps.ofBits .f32 0x7F800000#32) = 1#1
  f9 : ∀ i, FloatOps.cmpf .olt (FloatOps.hostAbsf (a9 i)) (FloatOps.ofBits .f32 0x7F800000#32) = 1#1

/-- A word at least 0 and below 1024, both signed, is below 1024 unsigned. -/
theorem below (x : BitVec 32) (h : IntOp.andi (IntOp.cmpi .sge x 0#32) (IntOp.cmpi .slt x 1024#32) = 1#1) : x.toNat < 1024 := by
  obtain ⟨h1, h2⟩ := IntOp.andi_eq_one.1 h
  rw [WordCmp.cmpi_sge_eq, WordCmp.ofBool_decide_eq_one_iff] at h1
  rw [WordCmp.cmpi_slt_eq, WordCmp.ofBool_decide_eq_one_iff] at h2
  have e : (1024#32 : BitVec 32).toInt = 1024 := by decide
  have e0 : (0#32 : BitVec 32).toInt = 0 := by decide
  rw [e] at h2; rw [e0] at h1
  rw [BitVec.toInt_eq_toNat_cond] at h1 h2
  split at h1 <;> omega

/-- The precondition, read. -/
theorem read (a0 : FVec F S2048x512 .f32) (a1 : FVec F S8192x512 .f32) (a2 : IVec S2048x32 32) (a3 a4 : IVec S8 32) (a5 : IVec S2048 32)
    (a6 : FVec F S512x512 .f32) (a7 : FVec F S512 .f32) (a8 : FVec F S512x512 .f32) (a9 : FVec F S512 .f32) (a10 : FVec F S512x512 .f32) (a11 : FVec F S512 .f32)
    (a12 : FVec F S512x512 .f32) (a13 : FVec F S512 .f32) (a14 : FVec F S512x2048 .f32) (a15 : FVec F S2048 .f32) (a16 : FVec F S2048x512 .f32)
    (a17 a18 a19 a20 a21 : FVec F S512 .f32)
    (h : fn (F := F) a0 a1 a2 a3 a4 a5 a6 a7 a8 a9 a10 a11 a12 a13 a14 a15 a16 a17 a18 a19 a20 a21 = fun _ => 1#1) :
    Read a1 a2 a4 a5 a6 a7 a8 a9 := by
  have h0 := congrFun h (fun i => i.elim0)
  unfold fn fn_part1 fn_part2 at h0
  dsimp only at h0
  simp only [WordCmp.andi_at] at h0
  obtain ⟨h0, k9⟩ := IntOp.andi_eq_one.1 h0
  obtain ⟨h0, k8⟩ := IntOp.andi_eq_one.1 h0
  obtain ⟨h0, k7⟩ := IntOp.andi_eq_one.1 h0
  obtain ⟨h0, k6⟩ := IntOp.andi_eq_one.1 h0
  obtain ⟨h0, k1⟩ := IntOp.andi_eq_one.1 h0
  obtain ⟨h0, k5⟩ := IntOp.andi_eq_one.1 h0
  obtain ⟨k2, k4⟩ := IntOp.andi_eq_one.1 h0
  refine ⟨fun i => ?_, fun i => ?_, fun n => ?_, fun i => ?_, fun i => ?_, fun i => ?_, fun i => ?_, fun i => ?_⟩
  · exact below _ (Host.reduce_andi_all _ _ _ _ _ k2 i)
  · have := Host.reduce_andi_all _ _ _ _ _ k4 i
    rw [WordCmp.cmpi_at, WordCmp.cmpi_eq_eq, WordCmp.ofBool_decide_eq_one_iff] at this
    exact this
  · have := Host.reduce_andi_all _ _ _ _ _ k5 (ix1 n)
    rw [WordCmp.cmpi_at, WordCmp.cmpi_eq_eq, WordCmp.ofBool_decide_eq_one_iff] at this
    have b := batch_word n
    dsimp only at b
    have hc : ¬ IntOp.SDivCorner (BitVec.ofNat 32 n.val) 256#32 := IntOp.not_corner_of_pos (by decide)
    have e1 : Host.divsi (iotaInDim S2048 32 0) (broadcastInDim S2048 ![] Facts.bcast_S_S2048 (constantI S_ 32 256#32)) (ix1 n) = (BitVec.ofNat 32 n.val).sdiv 256#32 :=
      if_neg hc
    have e2 : Host.remsi (iotaInDim S2048 32 0) (broadcastInDim S2048 ![] Facts.bcast_S_S2048 (constantI S_ 32 256#32)) (ix1 n) = (BitVec.ofNat 32 n.val).srem 256#32 :=
      if_neg hc
    rw [← e1, ← e2] at b
    rw [this, ← b]
    rfl
  · exact Host.reduce_andi_all _ _ _ _ _ k1 i
  · exact Host.reduce_andi_all _ _ _ _ _ k6 i
  · exact Host.reduce_andi_all _ _ _ _ _ k7 i
  · exact Host.reduce_andi_all _ _ _ _ _ k8 i
  · exact Host.reduce_andi_all _ _ _ _ _ k9 i

/-- The index range, read. -/
theorem readListed [Cert.Pre_listed.Facts] (a0 : FVec F S2048x512 .f32) (a1 : FVec F S8192x512 .f32) (a2 : IVec S2048x32 32) (a3 a4 : IVec S8 32) (a5 : IVec S2048 32)
    (a6 : FVec F S512x512 .f32) (a7 : FVec F S512 .f32) (a8 : FVec F S512x512 .f32) (a9 : FVec F S512 .f32) (a10 : FVec F S512x512 .f32) (a11 : FVec F S512 .f32)
    (a12 : FVec F S512x512 .f32) (a13 : FVec F S512 .f32) (a14 : FVec F S512x2048 .f32) (a15 : FVec F S2048 .f32) (a16 : FVec F S2048x512 .f32)
    (a17 a18 a19 a20 a21 : FVec F S512 .f32)
    (h : Cert.Pre_listed.fn (F := F) a0 a1 a2 a3 a4 a5 a6 a7 a8 a9 a10 a11 a12 a13 a14 a15 a16 a17 a18 a19 a20 a21 = fun _ => 1#1) (i) : (a2 i).toNat < 1024 := by
  have h0 := congrFun h (fun i => i.elim0)
  unfold Cert.Pre_listed.fn at h0
  dsimp only at h0
  exact below _ (Host.reduce_andi_all _ _ _ _ _ h0 i)

end

/-- An ideal value whose absolute value is below the infinity is a real. -/
theorem finite {x : Ideal .f32} (h : FloatOps.cmpf .olt (FloatOps.hostAbsf x) (FloatOps.ofBits .f32 0x7F800000#32) = 1#1) : ∃ r : ℝ, x = (r : EReal) := by
  have e : (FloatOps.ofBits .f32 0x7F800000#32 : Ideal .f32) = (⊤ : EReal) := by
    show Ideal.ofBits .f32 0x7F800000#32 = ⊤
    simp [Ideal.ofBits, Ideal.ieee]
  rw [e] at h
  have h' : max x (-x) < (⊤ : EReal) := by
    change Ideal.cmp .olt (max x (-x)) (⊤ : EReal) = 1#1 at h
    unfold Ideal.cmp at h
    rw [WordCmp.ofBool_decide_eq_one_iff] at h
    exact h
  induction x using EReal.rec with
  | bot => exact absurd h' (by show ¬ max (⊥ : EReal) (-⊥) < ⊤; simp)
  | coe r => exact ⟨r, rfl⟩
  | top => exact absurd h' (by show ¬ max (⊤ : EReal) (-⊤) < ⊤; simp)

end Cert.Proof.Pre

end
-- ==== Proof.Ki.Tile.lean ====
/-
  One task of the counting call, on a vector subcore named by its coordinates: the fetch of its 2048 indices, the
  zeroing of its 64 x 1024 counters, the 64 trips that add one to the counters their rows' indices name, and the
  write-out of the counters. The invariants carry the counters' contents: a counter holds as many ones, added onto
  zero one after another, as the indices seen so far that name it.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import Idealize.ShloMosaic.Lib.WritesUnit
public import Idealize.ShloMosaic.Lib.ValueIdxCore
public import proofs.«01_k».proof.Proof.Gen.KernelIdeal
public import proofs.«01_k».proof.Proof.Gen.KernelIdeal.Skeleton

@[expose] public section

noncomputable section

namespace Cert.Proof.Ki

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The arrays -/

local notation "iV" => (Memref.whole Cert.KernelIdeal.main_v0_scv : Memref Cert.KernelIdeal.sig Kind.scVector Space.hbm Cert.KernelIdeal.S65536 EltTy.i32)
local notation "oV" => (Memref.whole Cert.KernelIdeal.main_v1_scv : Memref Cert.KernelIdeal.sig Kind.scVector Space.hbm Cert.KernelIdeal.S2097152 EltTy.f32)
local notation "sI" => (Memref.whole Cert.KernelIdeal.cc0_scratch0 : Memref Cert.KernelIdeal.sig Kind.scVector Space.vmem Cert.KernelIdeal.S2048 EltTy.i32)
local notation "sM" => (Memref.whole Cert.KernelIdeal.cc0_scratch1 : Memref Cert.KernelIdeal.sig Kind.scVector Space.vmem Cert.KernelIdeal.S65536 EltTy.f32)

/-- The flat indices and the flat counts, as locations of device `d`. -/
abbrev iLoc (d : Dev nD) : Loc nD τ sig := (SparseCore.T d).loc main_v0
abbrev oLoc (d : Dev nD) : Loc nD τ sig := (SparseCore.T d).loc main_v1

section Tile

variable (d : Dev nD) (L : grid0.Coords)

abbrev cV (L : grid0.Coords) : Fin τ.nSC := (L 0).castLE hcore0
abbrev jV (L : grid0.Coords) : Fin τ.nSub := (L 1).castLE hsub0
/-- The number of the task: its share of the arrays. -/
def wid (L : grid0.Coords) : ℕ := (L 1).val * 2 + (L 0).val

theorem off1_eq : ∀ L : grid0.Coords, k0_off1 L 0 = wid L * 2048 := by decide +kernel
theorem off5_eq : ∀ L : grid0.Coords, k0_off5 L 0 = wid L * 65536 := by decide +kernel

/-- The elements of the two arrays that task number `w` reads and writes. -/
def iSet (w : ℕ) : Finset S65536.Idx := Finset.univ.filter fun x => (x 0).val / 2048 = w
def oSet (w : ℕ) : Finset S2097152.Idx := Finset.univ.filter fun x => (x 0).val / 65536 = w

abbrev iRowK (L : grid0.Coords) : Memref sig .scVector .hbm S2048 .i32 := (iV).slice (Rect.unit (s := S65536) (k0_off1 L) S2048.size (k0_off1_inb L)) (fun _ => rfl)
abbrev oRowK (L : grid0.Coords) : Memref sig .scVector .hbm S65536 .f32 := (oV).slice (Rect.unit (s := S2097152) (k0_off5 L) S65536.size (k0_off5_inb L)) (fun _ => rfl)

theorem set_iRowK : (iRowK L).view.set = iSet (wid L) := by
  show ((View.whole (main_v0_scv : Ref sig .scVector)).slice _).set = _
  rw [View.set_slice]
  refine Finset.map_refl.trans ?_
  ext x
  have h1 := off1_eq L
  simp only [iSet, Finset.mem_filter, Finset.mem_univ, true_and]
  rw [Rect.mem_set_unit]
  constructor
  · intro h
    have h2 : wid L * 2048 ≤ (x 0).val ∧ (x 0).val < wid L * 2048 + 2048 := by
      have := h 0
      rw [h1] at this
      exact this
    omega
  · intro h a
    match a with
    | 0 =>
      rw [h1]
      show wid L * 2048 ≤ (x 0).val ∧ (x 0).val < wid L * 2048 + 2048
      omega
theorem set_oRowK : (oRowK L).view.set = oSet (wid L) := by
  show ((View.whole (main_v1_scv : Ref sig .scVector)).slice _).set = _
  rw [View.set_slice]
  refine Finset.map_refl.trans ?_
  ext x
  have h1 := off5_eq L
  simp only [oSet, Finset.mem_filter, Finset.mem_univ, true_and]
  rw [Rect.mem_set_unit]
  constructor
  · intro h
    have h2 : wid L * 65536 ≤ (x 0).val ∧ (x 0).val < wid L * 65536 + 65536 := by
      have := h 0
      rw [h1] at this
      exact this
    omega
  · intro h a
    match a with
    | 0 =>
      rw [h1]
      show wid L * 65536 ≤ (x 0).val ∧ (x 0).val < wid L * 65536 + 65536
      omega

theorem pts_iRowK (f : Buf (Elt F) (iLoc d)) :
    ((iRowK L).view.loc (V d (cV L) (jV L)) ↦[(iRowK L).view.set]{fullShare} f : sProp 𝕄) = iLoc d ↦[iSet (wid L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oSet (wid L)]{fullShare} f := by
  rw [set_oRowK]
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
theorem pts_sM (f : Buf (Elt F) ((V d (cV L) (jV L)).loc cc0_scratch1)) :
    ((sM).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-! ## What a counter holds -/

/-- Adding one onto a counter, as the indexed store adds. -/
def bump (y : F .f32) : F .f32 := FloatOps.idxAddf y (FloatOps.ofBits .f32 0x3F800000#32)
/-- `n` ones added onto zero. -/
def ones (n : ℕ) : F .f32 := bump^[n] (FloatOps.ofBits .f32 0x00000000#32)

/-- How many of the first `n` of a task's indices name counter `j`: index `p` belongs to row `p / 32`. -/
def seen (g : ℕ → ℕ) (n j : ℕ) : ℕ := ((Finset.range n).filter fun p => p / 32 * 1024 + g p = j).card

/-- A task's index at position `p`, as a number (the word read unsigned). -/
def word (g : Vec F S2048 .i32) (p : ℕ) : ℕ := if h : p < 2048 then (g (ix1 ⟨p, h⟩) : BitVec 32).toNat else 0

/-- One indexed store of ones adds onto each counter as many ones as lanes name it. -/
theorem storeIdx_bump (f : Vec F S65536 .f32) (v : IVec S16 32) (h : ∀ a x, ((![v] : Fin 1 → IVec S16 32) a x).toNat < S65536.size a) (j : S65536.Idx) :
    storeIdx f ![v] (k0_pay2 (F := F)) (fun _ => 1#1) true h j
      = bump^[((List.finRange 16).filter fun k => (v (ix1 k)).toNat = (j 0).val).length] (f j) := by
  unfold storeIdx
  show (List.foldl _ f (List.finRange 16)) j = _
  induction List.finRange 16 generalizing f with
  | nil => rfl
  | cons k l ih =>
    refine (ih _).trans ?_
    rw [List.filter_cons]
    have hk : (Shape.ofLane (d := ![16]) k) = ix1 k := eq_ix1 _
    by_cases hj : (v (ix1 k)).toNat = (j 0).val
    · have : ∀ a, (j a).val = (idxAt (s := S65536) ![v] h (Shape.ofLane (d := ![16]) k) a).val := by
        intro a; match a with | 0 => rw [hk]; exact hj.symm
      have hji : idxAt (s := S65536) ![v] h (Shape.ofLane (d := ![16]) k) = j := by
        funext a; exact Fin.ext (this a).symm
      simp only [hj, decide_true, if_true, List.length_cons, Function.iterate_succ, Function.comp_apply]
      congr 1
      refine (congrFun (if_pos rfl) j).trans ((if_pos this).trans ?_)
      rw [hji]
      rfl
    · have : ¬ ∀ a, (j a).val = (idxAt (s := S65536) ![v] h (Shape.ofLane (d := ![16]) k) a).val := by
        intro hh
        have h0 := hh 0
        rw [hk] at h0
        exact hj h0.symm
      simp only [hj, decide_false, if_true]
      congr 1
      exact (congrFun (if_pos rfl) j).trans (if_neg this)

/-- Sixteen more indices: those among them that name the counter, added. -/
theorem seen_add (g : ℕ → ℕ) (p0 j : ℕ) :
    seen g (p0 + 16) j = ((List.finRange 16).filter fun k : Fin 16 => (p0 + k.val) / 32 * 1024 + g (p0 + k.val) = j).length + seen g p0 j := by
  have h : ((List.finRange 16).filter fun k : Fin 16 => (p0 + k.val) / 32 * 1024 + g (p0 + k.val) = j).length
      = (Finset.univ.filter fun k : Fin 16 => (p0 + k.val) / 32 * 1024 + g (p0 + k.val) = j).card := rfl
  rw [h]
  unfold seen
  rw [Finset.card_filter, Finset.card_filter, Finset.card_filter, Finset.sum_range_add, add_comm,
    Fin.sum_univ_eq_sum_range (fun k => if (p0 + k) / 32 * 1024 + g (p0 + k) = j then 1 else 0) 16]

theorem seen_zero (g : ℕ → ℕ) (j : ℕ) : seen g 0 j = 0 := rfl

/-- The fetched indices: the task's share of the flat indices. -/
def got (I : Buf (Elt F) (iLoc d)) : Vec F S2048 .i32 := (iRowK L).view.read (Elt F) I

/-- What the first `n` indices leave in the counters. -/
def cnts (g : Vec F S2048 .i32) (n : ℕ) : Vec F S65536 .f32 := fun j => ones (seen (word g) n (j 0).val)

theorem trips1 : k0_t1_loop.trips = 512 := by decide +kernel
theorem trips2 : k0_t2_loop.trips = 64 := by decide +kernel
theorem off2_eq : ∀ (t : Fin k0_t1_loop.trips) (r : Fin 8), k0_off2 t (BitVec.ofNat 32 r.val) 0 = 128 * t.val + 16 * r.val := by decide +kernel
theorem off3_eq : ∀ t : Fin k0_t2_loop.trips, k0_off3 t 0 = 32 * t.val := by decide +kernel
theorem off4_eq : ∀ t : Fin k0_t2_loop.trips, k0_off4 t 0 = 32 * t.val + 16 := by decide +kernel
theorem row_toNat : ∀ t : Fin k0_t2_loop.trips, (Scalar.muli (Scf.iv 0#32 1#32 t) 1024#32 : BitVec 32).toNat = t.val * 1024 := by decide +kernel

/-- The sixteen words at position `p0` of the fetched indices. -/
def lane (g : Vec F S2048 .i32) (p0 : ℕ) (v : Vec F S16 .i32) : Prop := ∀ k : Fin 16, (v (ix1 k) : BitVec 32).toNat = word g (p0 + k.val)

theorem pay3_toNat {g : Vec F S2048 .i32} (hg : ∀ p, word g p < 1024) {p0 : ℕ} {v : Vec F S16 .i32} (hv : lane g p0 v) (t : Fin k0_t2_loop.trips) (k : Fin 16) :
    (k0_pay3 t v (ix1 k)).toNat = t.val * 1024 + word g (p0 + k.val) := by
  show (Scalar.muli (Scf.iv 0#32 1#32 t) 1024#32 + v (ix1 k) : BitVec 32).toNat = _
  have h1 := row_toNat t
  have h2 := hv k
  have h3 := hg (p0 + k.val)
  have h4 : t.val < 64 := trips2 ▸ t.isLt
  rw [BitVec.toNat_add, h1, h2]
  omega
theorem pay4_toNat {g : Vec F S2048 .i32} (hg : ∀ p, word g p < 1024) {p0 : ℕ} {v : Vec F S16 .i32} (hv : lane g p0 v) (t : Fin k0_t2_loop.trips) (k : Fin 16) :
    (k0_pay4 t v (ix1 k)).toNat = t.val * 1024 + word g (p0 + k.val) := pay3_toNat hg hv t k
theorem chk1_of {g : Vec F S2048 .i32} (hg : ∀ p, word g p < 1024) {p0 : ℕ} {v : Vec F S16 .i32} (hv : lane g p0 v) (t : Fin k0_t2_loop.trips) :
    k0_chk1 (k0_pay3 t v) := by
  intro a x
  match a with
  | 0 =>
    rw [eq_ix1 x]
    show (k0_pay3 t v (ix1 (x 0))).toNat < 65536
    rw [pay3_toNat hg hv t (x 0)]
    have h3 := hg (p0 + (x 0).val)
    have h4 : t.val < 64 := trips2 ▸ t.isLt
    omega
theorem chk2_of {g : Vec F S2048 .i32} (hg : ∀ p, word g p < 1024) {p0 : ℕ} {v : Vec F S16 .i32} (hv : lane g p0 v) (t : Fin k0_t2_loop.trips) :
    k0_chk2 (k0_pay4 t v) := chk1_of hg hv t

/-- One indexed store takes the counters past sixteen more indices. -/
theorem cnts_step {g : Vec F S2048 .i32} (hg : ∀ p, word g p < 1024) {p0 : ℕ} {v : Vec F S16 .i32} (hv : lane g p0 v) (t : Fin k0_t2_loop.trips)
    (hp : ∀ k : Fin 16, (p0 + k.val) / 32 = t.val) (h : ∀ a x, ((![k0_pay3 t v] : Fin 1 → IVec S16 32) a x).toNat < S65536.size a)
    {f : Vec F S65536 .f32} (hf : ∀ j, f j = cnts g p0 j) (j : S65536.Idx) :
    storeIdx f ![k0_pay3 t v] (k0_pay2 (F := F)) (fun _ => 1#1) true h j = cnts g (p0 + 16) j := by
  rw [storeIdx_bump, hf]
  unfold cnts ones
  rw [← Function.iterate_add_apply, seen_add]
  congr 3
  refine List.filter_congr fun k _ => ?_
  rw [pay3_toNat hg hv t k, hp k]

/-- The word of a flat index array at a position. -/
def wordI (I : Buf (Elt F) (iLoc d)) (p : ℕ) : ℕ := if h : p < 65536 then (I (ix1 ⟨p, h⟩) : BitVec 32).toNat else 0

/-- What the call leaves in the flat counts: element `1024 n + k` holds as many ones as row `n`'s 32 indices name `k`. -/
def OUT (I : Buf (Elt F) (iLoc d)) : Buf (Elt F) (oLoc d) :=
  fun x : S2097152.Idx => (ones ((Finset.range 32).filter fun l => wordI d I ((x 0).val / 1024 * 32 + l) = (x 0).val % 1024).card : F .f32)

theorem emb_iRowK (y : S2048.Idx) : (((iRowK L).view.emb y : S65536.Idx) 0).val = wid L * 2048 + (y 0).val := by
  show k0_off1 L 0 + 1 * (y 0).val = _
  rw [off1_eq, one_mul]
theorem emb_oRowK (y : S65536.Idx) : (((oRowK L).view.emb y : S2097152.Idx) 0).val = wid L * 65536 + (y 0).val := by
  show k0_off5 L 0 + 1 * (y 0).val = _
  rw [off5_eq, one_mul]
theorem wid_lt : wid L < 32 := by
  have h0 : (L 0).val < 2 := (L 0).isLt
  have h1 : (L 1).val < 16 := (L 1).isLt
  unfold wid; omega

theorem word_got (I : Buf (Elt F) (iLoc d)) {p : ℕ} (hp : p < 2048) : word (got d L I) p = wordI d I (wid L * 2048 + p) := by
  have hw := wid_lt L
  unfold word wordI
  rw [dif_pos hp, dif_pos (show wid L * 2048 + p < 65536 by omega)]
  show (I ((iRowK L).view.emb (ix1 ⟨p, hp⟩)) : BitVec 32).toNat = _
  congr 1
  refine congrArg I (?_ : ((iRowK L).view.emb (ix1 ⟨p, hp⟩) : S65536.Idx) = ix1 ⟨wid L * 2048 + p, by omega⟩)
  rw [eq_ix1 ((iRowK L).view.emb (ix1 ⟨p, hp⟩) : S65536.Idx)]
  congr 1
  exact Fin.ext (emb_iRowK L (ix1 ⟨p, hp⟩))

theorem seen_all {g : ℕ → ℕ} (hg : ∀ p, g p < 1024) {j : ℕ} (hj : j < 65536) :
    seen g 2048 j = ((Finset.range 32).filter fun l => g (j / 1024 * 32 + l) = j % 1024).card := by
  unfold seen
  symm
  refine Finset.card_bij (fun l _ => j / 1024 * 32 + l) ?_ ?_ ?_
  · intro l hl
    simp only [Finset.mem_filter, Finset.mem_range] at hl ⊢
    refine ⟨by omega, ?_⟩
    rw [hl.2]
    omega
  · intro a _ b _ h
    omega
  · intro p hp
    simp only [Finset.mem_filter, Finset.mem_range] at hp
    have h1 := hg p
    refine ⟨p % 32, ?_, by omega⟩
    simp only [Finset.mem_filter, Finset.mem_range]
    refine ⟨by omega, ?_⟩
    rw [show j / 1024 * 32 + p % 32 = p by omega]
    omega

theorem cnts_out (I : Buf (Elt F) (iLoc d)) (hI : ∀ p, word (got d L I) p < 1024) (y : S65536.Idx) :
    cnts (got d L I) 2048 y = OUT d I ((oRowK L).view.emb y) := by
  have hy : (y 0).val < 65536 := (y 0).isLt
  unfold cnts OUT
  rw [seen_all hI hy, emb_oRowK]
  congr 2
  refine Finset.filter_congr fun l hl => ?_
  rw [Finset.mem_range] at hl
  rw [word_got d L I (by omega), show (wid L * 65536 + (y 0).val) / 1024 * 32 + l = wid L * 2048 + ((y 0).val / 1024 * 32 + l) by omega,
    show (wid L * 65536 + (y 0).val) % 1024 = (y 0).val % 1024 by omega]

theorem lane_of {I : Buf (Elt F) (iLoc d)} {g : Buf (Elt F) ((V d (cV L) (jV L)).loc cc0_scratch0)} (hg : ∀ x, (sI).view.read (Elt F) g x = got d L I x)
    {off : Fin 1 → ℕ} (inb : ∀ a, off a + S16.size a ≤ S2048.size a) (p0 : ℕ) (h : off 0 = p0) :
    lane (got d L I) p0 ((sI).view.readAt (Elt F) (Rect.unit (s := S2048) off S16.size inb).toLoadRect g) := by
  intro k
  have hb : off 0 + 16 ≤ 2048 := inb 0
  have hp : p0 + k.val < 2048 := by omega
  unfold word
  rw [dif_pos hp]
  show ((sI).view.read (Elt F) g ((Rect.unit (s := S2048) off S16.size inb).toLoadRect.idx (ix1 k)) : BitVec 32).toNat = _
  rw [hg]
  congr 2
  rw [eq_ix1 (n := 2048) ((Rect.unit (s := S2048) off S16.size inb).toLoadRect.idx (ix1 k))]
  congr 1
  refine Fin.ext ?_
  show off 0 + 1 * k.val = p0 + k.val
  omega

theorem pts_sM_whole (f : Buf (Elt F) ((V d (cV L) (jV L)).loc cc0_scratch1)) :
    (((sM).access (.whole S65536)).loc (V d (cV L) (jV L)) ↦[((sM).access (.whole S65536)).set]{fullShare} f : sProp 𝕄)
      = (sM).view.loc (V d (cV L) (jV L)) ↦{fullShare} f := by
  rw [show ((sM).access (.whole S65536)).set = Finset.univ from Memref.set_access_whole (cc0_scratch1 : Ref sig .scVector)]

/-- The first loop's invariant: the counters below piece `8 n` hold zero. -/
def inv1 (n : ℕ) (_ : PUnit) : sProp 𝕄 :=
  iprop(∃ f, ⌜∀ x : S65536.Idx, (x 0).val < 128 * n → (sM).view.read (Elt F) f x = ones 0⌝ ∗ (sM).view.loc (V d (cV L) (jV L)) ↦{fullShare} f)

/-- The second loop's invariant: the fetched indices, and the counters after the first `n` rows' indices. -/
def inv2 (I : Buf (Elt F) (iLoc d)) (n : ℕ) (_ : PUnit) : sProp 𝕄 :=
  iprop((∃ f, ⌜∀ x, (sI).view.read (Elt F) f x = got d L I x⌝ ∗ (sI).view.loc (V d (cV L) (jV L)) ↦{fullShare} f)
    ∗ ∃ f, ⌜∀ x, (sM).view.read (Elt F) f x = cnts (got d L I) (32 * n) x⌝ ∗ (sM).view.loc (V d (cV L) (jV L)) ↦{fullShare} f)

theorem zero_piece (f : (sM).view.ty.Contents (Elt F)) {off : Fin 1 → ℕ} (inb : ∀ a, off a + S16.size a ≤ S65536.size a) (P : List (View.Piece (Elt F) S65536 .f32)) (n : ℕ) (h : off 0 = n) (y : S65536.Idx) :
    (sM).view.read (Elt F) ((sM).view.writes (Elt F) f ((⟨Rect.unit (s := S65536) off S16.size inb, k0_pay1 (F := F)⟩ : View.Piece (Elt F) S65536 .f32) :: P)) y
      = if n ≤ (y 0).val ∧ (y 0).val < n + 16 then ones 0 else (sM).view.read (Elt F) ((sM).view.writes (Elt F) f P) y := by
  have heq : off = fun _ => n := by funext a; match a with | 0 => exact h
  by_cases hc : n ≤ (y 0).val ∧ (y 0).val < n + 16
  · rw [if_pos hc]
    refine (View.read_writes_cons_unit_of_mem (sM).view f inb _ P y (ix1 ⟨(y 0).val - n, by omega⟩) heq fun a => ?_).trans rfl
    match a with
    | 0 => show (y 0).val = n + ((y 0).val - n); omega
  · rw [if_neg hc]
    refine View.read_writes_cons_unit_of_not_mem (sM).view f inb _ P y heq 0 ?_
    show (y 0).val < n ∨ n + 16 ≤ (y 0).val
    omega

theorem read_acc (f : (sM).view.ty.Contents (Elt F)) (y : S65536.Idx) :
    ((sM).access (.whole S65536)).read (Elt F) f y = (sM).view.read (Elt F) f y := by
  refine congrArg f (funext fun a => Fin.ext ?_ : (Rect.whole S65536).emb y = y)
  show 0 + 1 * (y a).val = (y a).val
  omega

theorem read_wr (f : (sM).view.ty.Contents (Elt F)) (w : Vec F S65536 .f32) (y : S65536.Idx) :
    (sM).view.read (Elt F) (((sM).access (.whole S65536)).write (Elt F) f w Finset.univ) y = w y :=
  (read_acc _ y).symm.trans (congrFun (View.read_write_univ (v := (sM).access (.whole S65536)) f w) y)

theorem trip_value {I : Buf (Elt F) (iLoc d)} (hI : ∀ p, word (got d L I) p < 1024) (k : Fin k0_t2_loop.trips) {f : (sM).view.ty.Contents (Elt F)}
    (hf : ∀ x, (sM).view.read (Elt F) f x = cnts (got d L I) (32 * k.val) x) {v w : Vec F S16 .i32}
    (hv : lane (got d L I) (32 * k.val) v) (hw : lane (got d L I) (32 * k.val + 16) w)
    (h1 : ∀ a x, ((![k0_pay3 k v] : Fin 1 → IVec S16 32) a x).toNat < S65536.size a) (h2 : ∀ a x, ((![k0_pay4 k w] : Fin 1 → IVec S16 32) a x).toNat < S65536.size a)
    (x : S65536.Idx) :
    (sM).view.read (Elt F) (((sM).access (.whole S65536)).write (Elt F)
        (((sM).access (.whole S65536)).write (Elt F) f (storeIdx (((sM).access (.whole S65536)).read (Elt F) f) ![k0_pay3 k v] (k0_pay2 (F := F)) (fun _ => 1#1) true h1) Finset.univ)
        (storeIdx (((sM).access (.whole S65536)).read (Elt F)
          (((sM).access (.whole S65536)).write (Elt F) f (storeIdx (((sM).access (.whole S65536)).read (Elt F) f) ![k0_pay3 k v] (k0_pay2 (F := F)) (fun _ => 1#1) true h1) Finset.univ))
          ![k0_pay4 k w] (k0_pay2 (F := F)) (fun _ => 1#1) true h2) Finset.univ) x = cnts (got d L I) (32 * (k.val + 1)) x := by
  have hk : k.val < 64 := trips2 ▸ k.isLt
  refine (read_wr _ _ x).trans ?_
  refine (cnts_step hI hw k (fun q => by omega) h2 (fun j => ?_) x).trans ?_
  · refine (congrFun (View.read_write_univ (v := (sM).access (.whole S65536)) f _) j).trans ?_
    exact cnts_step hI hv k (fun q => by omega) h1 (fun j => (read_acc f j).trans (hf j)) j
  · rw [show 32 * k.val + 16 + 16 = 32 * (k.val + 1) by omega]

/-- One trip of the second loop: two indexed stores, sixteen indices each. -/
theorem count_trip (I : Buf (Elt F) (iLoc d)) (hI : ∀ p, word (got d L I) p < 1024) (k : Fin k0_t2_loop.trips) (u : PUnit) :
    inv2 (F := F) d L I k.val u
      ⊢ wp frame (wpE (defs₀ (F := F)) 𝒱₀ (V d (cV L) (jV L)) none) Set.univ
          (k0_t2_body L iV (Memref.isWhole_whole _) oV (Memref.isWhole_whole _) sI (Memref.isWhole_whole _) sM (Memref.isWhole_whole _) cc0_scoped0 cc0_scoped1 k u)
          (inv2 (F := F) d L I (k.val + 1)) := by
  have hk : k.val < 64 := trips2 ▸ k.isLt
  unfold k0_t2_body
  simp only [Prog.lift, Prog.bind_op, Prog.bind_ret, Prog.pure_eq_ret, Prog.bind_assoc]
  unfold inv2
  iintro ⟨⟨%g, %hg, Hs⟩, %f, %hf, Hc⟩
  iapply (wp_load 𝒱₀ (V d (cV L) (jV L)) none Set.univ (m := sI) (S := Finset.univ) (Finset.subset_univ _)) $$ Hs; iintro Hs
  rw [wp_assume_of _ _ _ _ (chk1_of hI (lane_of d L hg _ (32 * k.val) (off3_eq k)) k)]
  ihave Hc' := (Entails.of_eq (pts_sM_whole (F := F) d L _).symm) $$ Hc
  iapply (SparseCore.wp_vectorStoreIdx 𝒱₀ (V d (cV L) (jV L)) none Set.univ (base := sM)) $$ Hc'; iintro Hc
  iapply (wp_load 𝒱₀ (V d (cV L) (jV L)) none Set.univ (m := sI) (S := Finset.univ) (Finset.subset_univ _)) $$ Hs; iintro Hs
  rw [wp_assume_of _ _ _ _ (chk2_of hI (lane_of d L hg _ (32 * k.val + 16) (off4_eq k)) k)]
  iapply (SparseCore.wp_vectorStoreIdx 𝒱₀ (V d (cV L) (jV L)) none Set.univ (base := sM)) $$ Hc; iintro Hc
  ihave Hc' := (Entails.of_eq (pts_sM_whole (F := F) d L _)) $$ Hc
  sl_step
  isplitl [Hs]
  · iexists g
    isplitr
    · ipureintro; exact hg
    · iexact Hs
  iexists _
  isplitr
  swap; · iexact Hc'
  ipureintro
  intro x
  exact trip_value d L hI k hf (lane_of d L hg _ (32 * k.val) (off3_eq k)) (lane_of d L hg _ (32 * k.val + 16) (off4_eq k)) _ _ x

theorem read_oRowK (f : Buf (Elt F) (oLoc d)) (y : S65536.Idx) : (oRowK L).view.read (Elt F) f y = f ((oRowK L).view.emb y) := rfl

theorem out_value (I : Buf (Elt F) (iLoc d)) (hI : ∀ p, word (got d L I) p < 1024) {f : (sM).view.ty.Contents (Elt F)} {fo : (oRowK L).view.ty.Contents (Elt F)}
    (hf : ∀ x, (sM).view.read (Elt F) f x = cnts (got d L I) (32 * k0_t2_loop.trips) x) (y : S65536.Idx) :
    (oRowK L).view.writes (Elt F) fo [(⟨Rect.whole S65536, (sM).view.read (Elt F) f⟩ : View.Piece (Elt F) S65536 .f32)] ((oRowK L).view.emb y) = OUT d I ((oRowK L).view.emb y) := by
  have h1 := (oRowK L).view.read_writes_cons_hit_of_coords fo (Rect.whole S65536) ((sM).view.read (Elt F) f) [] y y (fun a => by show (y a).val = 0 + 1 * (y a).val; omega)
  refine (read_oRowK d L _ y).symm.trans ?_
  refine h1.trans ?_
  refine (hf y).trans ?_
  rw [trips2]
  exact cnts_out d L I hI y

theorem tile_body (hF : (K (F := F)).Facts) (I : Buf (Elt F) (iLoc d)) (hI : ∀ p, word (got d L I) p < 1024) (O : CellTallies nD τ sig (HIx 1)) (W : Waits sig (HIx 1)) (hO : ∀ g, O g none = 0) :
    iprop(levAts (K (F := F)).L (K (F := F)).lev ∗ emp
        ∗ ((iLoc d ↦[iSet (wid L)]{fullShare} I : sProp 𝕄) ∗ ∃ f, oLoc d ↦[oSet (wid L)]{fullShare} f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_count_body L iV (Memref.isWhole_whole _) oV (Memref.isWhole_whole _)
            sI (Memref.isWhole_whole _) sM (Memref.isWhole_whole _) cc0_scoped0 cc0_scoped1)
          fun _ => iprop(((iLoc d ↦[iSet (wid L)]{fullShare} I) ∗ oLoc d ↦[oSet (wid L)]{fullShare} OUT d I)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__sc_count_body_eq_skeleton]; unfold cc0__sc_count_body_skel
  rw [(K (F := F)).scopedBufs_V hF d (cV L) (jV L), SparseCore.Cfg.scopedSems0_V (Val := Elt F) d (cV L) (jV L), ownSems0_V, ownBufs_V]
  iintro ⟨#Hlv, -, ⟨Hi, %fo, Ho⟩, ⟨⟨%fs, Hs⟩, ⟨%fc, Hc⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hs' := (Entails.of_eq (pts_sI (F := F) d L _).symm) $$ Hs
  ihave Hc' := (Entails.of_eq (pts_sM (F := F) d L _).symm) $$ Hc
  sl_exec (disch := exact View.amount_pos _ _ (show 0 < S2048.numel by decide))
  sl_for (inv1 (F := F) d L) $$ [Hc']
  case region =>
    intro k _
    unfold inv1
    iintro ⟨%f, %hf, Hc⟩
    sl_exec
    sl_step
    iexists _
    isplitr
    swap; · iexact Hc
    ipureintro
    intro x hx
    have o0 : k0_off2 k 0#32 0 = 128 * k.val + 0 := off2_eq k 0
    have o1 : k0_off2 k 1#32 0 = 128 * k.val + 16 := off2_eq k 1
    have o2 : k0_off2 k 2#32 0 = 128 * k.val + 32 := off2_eq k 2
    have o3 : k0_off2 k 3#32 0 = 128 * k.val + 48 := off2_eq k 3
    have o4 : k0_off2 k 4#32 0 = 128 * k.val + 64 := off2_eq k 4
    have o5 : k0_off2 k 5#32 0 = 128 * k.val + 80 := off2_eq k 5
    have o6 : k0_off2 k 6#32 0 = 128 * k.val + 96 := off2_eq k 6
    have o7 : k0_off2 k 7#32 0 = 128 * k.val + 112 := off2_eq k 7
    rw [zero_piece f _ _ _ o7, zero_piece f _ _ _ o6, zero_piece f _ _ _ o5, zero_piece f _ _ _ o4, zero_piece f _ _ _ o3, zero_piece f _ _ _ o2, zero_piece f _ _ _ o1, zero_piece f _ _ _ o0, View.writes_nil]
    split_ifs with h7 h6 h5 h4 h3 h2 h1 h0
    all_goals first | rfl | (refine hf x ?_)
    omega
  · unfold inv1
    iexists _
    isplitr
    swap; · iexact Hc'
    ipureintro
    intro x hx
    omega
  iintro %_ HI
  unfold inv1
  icases HI with ⟨%f1, %hf1, Hc⟩
  sl_exec
  sl_for (inv2 (F := F) d L I) $$ [Hs' Hc]
  case region =>
    intro k _
    exact count_trip d L I hI k _
  · unfold inv2
    isplitl [Hs']
    · iexists _
      isplitr
      swap; · iexact Hs'
      ipureintro
      intro x
      rw [View.read_write_univ]
      rfl
    iexists _
    isplitr
    swap; · iexact Hc
    ipureintro
    intro x
    refine (hf1 x ?_).trans rfl
    have h1 : (x 0).val < 65536 := (x 0).isLt
    exact lt_of_lt_of_le h1 (show 65536 ≤ 128 * k0_t1_loop.trips by rw [trips1])
  iintro %_ HI
  unfold inv2
  icases HI with ⟨⟨%g, %hg, Hs⟩, %f, %hf, Hc⟩
  sl_exec
  sl_step
  isplitl [Hi' Ho']
  · isplitl [Hi']; · iapply (Entails.of_eq (pts_iRowK (F := F) d L _)); iexact Hi'
    iapply (Entails.of_eq (pts_oRowK (F := F) d L _))
    iapply (Entails.of_eq (pointsTo_congr (g := OUT d I) ?_))
    rotate_left
    · iexact Ho'
    · intro i hi
      obtain ⟨y, -, rfl⟩ := Finset.mem_map.mp hi
      exact out_value d L I hI hf y
  isplitl [Hs Hc Hbufs]
  · isplitl [Hs]; · iexists _; iexact Hs
    isplitl [Hc]; · iexists _; iexact Hc
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

end Tile

end Cert.Proof.Ki
-- ==== Proof.Ki.Launch.lean ====
/-
  The counting call as the launch theorem takes it: what each SparseCore and each of its tasks is handed and gives
  back, the task's obligation, and the split of the two arrays over the cores and their tasks.
-/
module

public import proofs.«01_k».proof.Proof.Ki.Tile

@[expose] public section

noncomputable section

namespace Cert.Proof.Ki

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The flat indices and flat counts that core `c`'s sixteen tasks share out. -/
def iCore (c : ℕ) : Finset S65536.Idx := (Finset.univ : Finset (Fin 16)).biUnion fun i => iSet (i.val * 2 + c)
def oCore (c : ℕ) : Finset S2097152.Idx := (Finset.univ : Finset (Fin 16)).biUnion fun i => oSet (i.val * 2 + c)

variable (I : (d : Dev nD) → Buf (Elt F) (iLoc d))

/-- Core `c`'s part of the indices, of the counts at anything, and of the counts at the finished counts. -/
abbrev iC (d : Dev nD) (c : ℕ) : sProp 𝕄 := iLoc d ↦[iCore c]{fullShare} I d
abbrev oC (d : Dev nD) (c : ℕ) : sProp 𝕄 := iprop(∃ f, oLoc d ↦[oCore c]{fullShare} f)
abbrev rC (d : Dev nD) (c : ℕ) : sProp 𝕄 := oLoc d ↦[oCore c]{fullShare} OUT d (I d)
/-- The same of the task numbered `w`. -/
abbrev iW (d : Dev nD) (w : ℕ) : sProp 𝕄 := iLoc d ↦[iSet w]{fullShare} I d
abbrev oW (d : Dev nD) (w : ℕ) : sProp 𝕄 := iprop(∃ f, oLoc d ↦[oSet w]{fullShare} f)
abbrev rW (d : Dev nD) (w : ℕ) : sProp 𝕄 := oLoc d ↦[oSet w]{fullShare} OUT d (I d)

/-- What the call's cores and tasks take and bring back. -/
def P : (K (F := F)).Pay (nD := nD) (Val := Elt F) (Name := ℕ) (U := UU) where
  st := fun q d c => match q with | 0 => iprop(iC I d c.val ∗ oC d c.val)
  dn := fun q d c => match q with | 0 => iprop(iC I d c.val ∗ rC I d c.val)
  go := fun q d c i => match q with | 0 => iprop(iW I d ((Fin.cast nSub_zero i).val * 2 + c.val) ∗ oW d ((Fin.cast nSub_zero i).val * 2 + c.val))
  td := fun q d c i => match q with | 0 => iprop(iW I d ((Fin.cast nSub_zero i).val * 2 + c.val) ∗ rW I d ((Fin.cast nSub_zero i).val * 2 + c.val))
  x := fun _ _ => iprop(emp)

instance P_storable : (P (F := F) I).IsStorable where
  st q d c := match q with
    | 0 => (inferInstance : BI.Storable (upEmb : UEmb _ 𝕄) iprop(iC I d c.val ∗ oC d c.val))
  dn q d c := match q with
    | 0 => (inferInstance : BI.Storable (upEmb : UEmb _ 𝕄) iprop(iC I d c.val ∗ rC I d c.val))
  go q d c i := match q with
    | 0 => (inferInstance : BI.Storable (upEmb : UEmb _ 𝕄) iprop(iW I d ((Fin.cast nSub_zero i).val * 2 + c.val) ∗ oW d ((Fin.cast nSub_zero i).val * 2 + c.val)))
  td q d c i := match q with
    | 0 => (inferInstance : BI.Storable (upEmb : UEmb _ 𝕄) iprop(iW I d ((Fin.cast nSub_zero i).val * 2 + c.val) ∗ rW I d ((Fin.cast nSub_zero i).val * 2 + c.val)))

/-! ## The task's obligation -/

/-- The coordinates naming subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_count_body (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _) cc0_scoped0 cc0_scoped1) ⟨⟩ c s := rfl

/-- Indices that name one of the 1024 keys, as each task reads them. -/
theorem got_lt {d : Dev nD} {J : Buf (Elt F) (iLoc d)} (h : ∀ p, wordI d J p < 1024) (L : grid0.Coords) (p : ℕ) : word (got d L J) p < 1024 := by
  by_cases hp : p < 2048
  · rw [word_got d L J hp]; exact h _
  · unfold word; rw [dif_neg hp]; exact Nat.zero_lt_succ _

theorem tileObl (hI : ∀ d p, wordI d (I d) p < 1024) (hF : (K (F := F)).Facts) : (K (F := F)).TileObl (D (F := F)) 𝒱 (P I) v₀ 0 := by
  intro d c i O W hO _ _
  simp only [show (P I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (I d) (got_lt (hI d) _) O W hO

/-! ## The split over the tasks -/

theorem iSet_disjoint (c : ℕ) : ∀ i ∈ (Finset.univ : Finset (Fin 16)), ∀ j ∈ (Finset.univ : Finset (Fin 16)), i ≠ j →
    Disjoint (iSet (i.val * 2 + c)) (iSet (j.val * 2 + c)) := by
  intro i _ j _ h
  refine Finset.disjoint_left.mpr fun x hx hy => h (Fin.ext ?_)
  have h1 := (Finset.mem_filter.mp hx).2
  have h2 := (Finset.mem_filter.mp hy).2
  omega
theorem oSet_disjoint (c : ℕ) : ∀ i ∈ (Finset.univ : Finset (Fin 16)), ∀ j ∈ (Finset.univ : Finset (Fin 16)), i ≠ j →
    Disjoint (oSet (i.val * 2 + c)) (oSet (j.val * 2 + c)) := by
  intro i _ j _ h
  refine Finset.disjoint_left.mpr fun x hx hy => h (Fin.ext ?_)
  have h1 := (Finset.mem_filter.mp hx).2
  have h2 := (Finset.mem_filter.mp hy).2
  omega

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem iC_tasks (d : Dev nD) (c : ℕ) : (iC I d c : sProp 𝕄) = bigSep Finset.univ fun i : Fin 16 => iW I d (i.val * 2 + c) := by
  unfold iC iCore; exact pointsTo_biUnion Finset.univ (ℓ := iLoc d) (fun i : Fin 16 => iSet (i.val * 2 + c)) (iSet_disjoint c)
theorem oPts_tasks (d : Dev nD) (c : ℕ) (f : Buf (Elt F) (oLoc d)) :
    (oLoc d ↦[oCore c]{fullShare} f : sProp 𝕄) = bigSep Finset.univ fun i : Fin 16 => oLoc d ↦[oSet (i.val * 2 + c)]{fullShare} f := by
  unfold oCore; exact pointsTo_biUnion Finset.univ (ℓ := oLoc d) (fun i : Fin 16 => oSet (i.val * 2 + c)) (oSet_disjoint c)

theorem oC_tasks (d : Dev nD) (c : ℕ) : (oC d c : sProp 𝕄) ⊢ bigSep Finset.univ fun i : Fin 16 => oW d (i.val * 2 + c) := by
  iintro ⟨%f, H⟩
  ihave H' := (Entails.of_eq (oPts_tasks d c f)) $$ H
  iapply (show (bigSep Finset.univ fun i : Fin 16 => oLoc d ↦[oSet (i.val * 2 + c)]{fullShare} f : sProp 𝕄) ⊢ bigSep Finset.univ fun i : Fin 16 => oW d (i.val * 2 + c) from
    bigSep_mono fun i _ => (show (oLoc d ↦[oSet (i.val * 2 + c)]{fullShare} f : sProp 𝕄) ⊢ iprop(∃ f, oLoc d ↦[oSet (i.val * 2 + c)]{fullShare} f) from by iintro H; iexists f; iexact H))
  iexact H'

theorem vecSplit : (K (F := F)).VecSplit' (P I) 0 := by
  intro d c
  show iprop(iC I d c.val ∗ oC d c.val) ⊢ |={Set.univ}=> iprop(
      (bigSep Finset.univ fun i : Fin ((K (F := F)).nSub 0) => iprop(iW I d ((Fin.cast nSub_zero i).val * 2 + c.val) ∗ oW d ((Fin.cast nSub_zero i).val * 2 + c.val)))
      ∗ ((bigSep Finset.univ fun i : Fin ((K (F := F)).nSub 0) => iprop(iW I d ((Fin.cast nSub_zero i).val * 2 + c.val) ∗ rW I d ((Fin.cast nSub_zero i).val * 2 + c.val)))
          -∗ iprop(iC I d c.val ∗ rC I d c.val)))
  rw [bigSep_tasks (F := F) (fun i => iprop(iW I d (i.val * 2 + c.val) ∗ oW d (i.val * 2 + c.val))),
    bigSep_tasks (F := F) (fun i => iprop(iW I d (i.val * 2 + c.val) ∗ rW I d (i.val * 2 + c.val))), bigSep_sep', bigSep_sep', ← iC_tasks]
  rw [show (bigSep Finset.univ fun i : Fin 16 => rW I d (i.val * 2 + c.val)) = (rC I d c.val : sProp 𝕄) from (oPts_tasks d c.val _).symm]
  iintro ⟨Hi, Ho⟩; imodintro
  isplitl [Hi Ho]
  · isplitl [Hi]; · iexact Hi
    iapply (oC_tasks d c.val); iexact Ho
  iintro H; iexact H

/-! ## The split over the cores -/

theorem mem_iCore {c : ℕ} (hc : c < 2) (x : S65536.Idx) : x ∈ iCore c ↔ (x 0).val / 2048 % 2 = c := by
  have hx : (x 0).val < 65536 := (x 0).isLt
  unfold iCore iSet
  simp only [Finset.mem_biUnion, Finset.mem_univ, true_and, Finset.mem_filter]
  constructor
  · rintro ⟨i, hi⟩; omega
  · intro h; exact ⟨⟨(x 0).val / 2048 / 2, by omega⟩, by show (x 0).val / 2048 = (x 0).val / 2048 / 2 * 2 + c; omega⟩
theorem mem_oCore {c : ℕ} (hc : c < 2) (x : S2097152.Idx) : x ∈ oCore c ↔ (x 0).val / 65536 % 2 = c := by
  have hx : (x 0).val < 2097152 := (x 0).isLt
  unfold oCore oSet
  simp only [Finset.mem_biUnion, Finset.mem_univ, true_and, Finset.mem_filter]
  constructor
  · rintro ⟨i, hi⟩; omega
  · intro h; exact ⟨⟨(x 0).val / 65536 / 2, by omega⟩, by show (x 0).val / 65536 = (x 0).val / 65536 / 2 * 2 + c; omega⟩

theorem iCore_disjoint : ∀ i ∈ (Finset.univ : Finset (Fin 2)), ∀ j ∈ (Finset.univ : Finset (Fin 2)), i ≠ j → Disjoint (iCore i.val) (iCore j.val) := by
  intro i _ j _ h
  exact Finset.disjoint_left.mpr fun x hx hy => h (Fin.ext (((mem_iCore i.isLt x).mp hx).symm.trans ((mem_iCore j.isLt x).mp hy)))
theorem oCore_disjoint : ∀ i ∈ (Finset.univ : Finset (Fin 2)), ∀ j ∈ (Finset.univ : Finset (Fin 2)), i ≠ j → Disjoint (oCore i.val) (oCore j.val) := by
  intro i _ j _ h
  exact Finset.disjoint_left.mpr fun x hx hy => h (Fin.ext (((mem_oCore i.isLt x).mp hx).symm.trans ((mem_oCore j.isLt x).mp hy)))
theorem iCore_cover : ((Finset.univ : Finset (Fin 2)).biUnion fun i => iCore i.val) = Finset.univ := by
  refine Finset.eq_univ_iff_forall.mpr fun x => Finset.mem_biUnion.mpr ⟨⟨(x 0).val / 2048 % 2, by omega⟩, Finset.mem_univ _, ?_⟩
  exact (mem_iCore (Nat.mod_lt _ (by decide)) x).mpr rfl
theorem oCore_cover : ((Finset.univ : Finset (Fin 2)).biUnion fun i => oCore i.val) = Finset.univ := by
  refine Finset.eq_univ_iff_forall.mpr fun x => Finset.mem_biUnion.mpr ⟨⟨(x 0).val / 65536 % 2, by omega⟩, Finset.mem_univ _, ?_⟩
  exact (mem_oCore (Nat.mod_lt _ (by decide)) x).mpr rfl

theorem iPts_cores (d : Dev nD) : (iLoc d ↦{fullShare} I d : sProp 𝕄) = bigSep Finset.univ fun c : Fin 2 => iC I d c.val := by
  unfold iC; rw [← pointsTo_biUnion Finset.univ (ℓ := iLoc d) (fun c : Fin 2 => iCore c.val) iCore_disjoint, iCore_cover]; try rfl
theorem oPts_cores (d : Dev nD) (f : Buf (Elt F) (oLoc d)) :
    (oLoc d ↦{fullShare} f : sProp 𝕄) = bigSep Finset.univ fun c : Fin 2 => oLoc d ↦[oCore c.val]{fullShare} f := by
  rw [← pointsTo_biUnion Finset.univ (ℓ := oLoc d) (fun c : Fin 2 => oCore c.val) oCore_disjoint, oCore_cover]; try rfl

/-- What the call takes of the TensorCore: both arrays whole, the counts at anything. -/
theorem st0_of (d : Dev nD) (f : Buf (Elt F) (oLoc d)) :
    iprop((iLoc d ↦{fullShare} I d : sProp 𝕄) ∗ oLoc d ↦{fullShare} f) ⊢ bigSep Finset.univ fun c : Fin ((K (F := F)).nCore 0) => (P I).st 0 d c := by
  show _ ⊢ bigSep Finset.univ fun c : Fin 2 => iprop(iC I d c.val ∗ oC d c.val)
  rw [bigSep_sep', iPts_cores, oPts_cores]
  refine BI.sep_mono (Entails.refl _) (bigSep_mono fun c _ => ?_)
  show (oLoc d ↦[oCore c.val]{fullShare} f : sProp 𝕄) ⊢ iprop(∃ f, oLoc d ↦[oCore c.val]{fullShare} f)
  iintro H; iexists f; iexact H
/-- What it brings back: the indices as they were and the counts finished. -/
theorem dn0_eq (d : Dev nD) :
    (bigSep Finset.univ fun c : Fin ((K (F := F)).nCore 0) => (P I).dn 0 d c) = iprop((iLoc d ↦{fullShare} I d : sProp 𝕄) ∗ oLoc d ↦{fullShare} OUT d (I d)) := by
  show (bigSep Finset.univ fun c : Fin 2 => iprop(iC I d c.val ∗ rC I d c.val)) = _
  rw [bigSep_sep', iPts_cores, oPts_cores]

end Cert.Proof.Ki

end
-- ==== Proof.Ki.Region.lean ====
/-
  The TensorCore call as a region of @main: what one grid point's body leaves in the output block, as a function of the
  blocks of the seventeen input windows; the body's triple; the pipeline's proof data from any contents of the
  buffers; and the region itself, entered from any contents and left with the output array at what the pipeline writes.
-/
module

public import proofs.«01_k».proof.Proof.Ki.Launch
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Regions
public import Idealize.ShloMosaic.Lib.Pipeline.RegionsLoop

@[expose] public section

set_option maxRecDepth 16384

noncomputable section

namespace Cert.Proof.Ki

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What the body computes -/

abbrev r0 : Rect S256x512 := Rect.unit (s := S256x512) ![0, 0] S256x512.size inb_S256x512_S256x512_0_0
abbrev r1 : Rect S1024x512 := Rect.unit (s := S1024x512) ![0, 0] S1024x512.size inb_S1024x512_S1024x512_0_0
abbrev r2 : Rect S512x512 := Rect.unit (s := S512x512) ![0, 0] S512x512.size inb_S512x512_S512x512_0_0
abbrev r3 : Rect S1x512 := Rect.unit (s := S1x512) ![0, 0] S1x512.size inb_S1x512_S1x512_0_0
abbrev r4 : Rect S512x1024 := Rect.unit (s := S512x1024) ![0, 0] S512x1024.size inb_S512x1024_S512x1024_0_0
abbrev r5 : Rect S1x1024 := Rect.unit (s := S1x1024) ![0, 0] S1x1024.size inb_S1x1024_S1x1024_0_0
abbrev r6 : Rect S256x1024 := Rect.unit (s := S256x1024) ![0, 0] S256x1024.size inb_S256x1024_S256x1024_0_0
abbrev r7 : Rect S512x2048 := Rect.unit (s := S512x2048) ![0, 0] S512x2048.size inb_S512x2048_S512x2048_0_0
abbrev r8 : Rect S1x2048 := Rect.unit (s := S1x2048) ![0, 0] S1x2048.size inb_S1x2048_S1x2048_0_0
abbrev r9 : Rect S2048x512 := Rect.unit (s := S2048x512) ![0, 0] S2048x512.size inb_S2048x512_S2048x512_0_0

/-- The attention heads' outputs joined, projected, added to the queries, and centred and scaled by the first
    normalisation's statistics and gain; from the block of queries, the projected queries `q`, keys `k`, values `v`, the
    multiplicities `mu` and a block of ones. -/
def attnN (x0 : Vec F S256x512 .f32) (q : FVec F S256x512 .f32) (k v : FVec F S1024x512 .f32) (mu : FVec F S256x1024 .f32) (o : FVec F S1024x8 .f32) (h0 : FVec F S256x64 .f32)
    (x7 : Vec F S512x512 .bf16) (x8 x13 : Vec F S1x512 .f32) : FVec F S256x512 .f32 :=
  k1_pay19 x0 v mu o h0 (k1_pay9 q k v mu o) (k1_pay10 q k v mu o) (k1_pay11 q k v mu o)
    (k1_pay14 v mu o (k1_pay12 q) (k1_pay13 k) (constant S256x1024 .f32 0x00000000#32)) (k1_pay15 q k v mu o) (k1_pay16 q k v mu o) (k1_pay17 q k) (k1_pay18 q k) x7 x8 x13

/-- The body's result at one grid point, from the blocks of the input windows. -/
def tcOut (x0 : Vec F S256x512 .f32) (x1 : Vec F S1024x512 .f32) (x2 : Vec F S256x1024 .f32) (x3 : Vec F S512x512 .bf16) (x4 : Vec F S1x512 .f32) (x5 : Vec F S512x1024 .bf16) (x6 : Vec F S1x1024 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) : Vec F S256x512 .f32 :=
  k1_pay1 (k1_pay21 x15) (k1_pay22 x16)
    (k1_pay23 (attnN x0 (k1_pay2 x0 x3 x4) (k1_pay4 x1 x5 x6) (k1_pay5 x1 x5 x6) (k1_pay6 x2) (k1_pay7 (F := F)) (k1_pay8 x0 x1 x3 x4 x5 x6 x2) x7 x8 x13) (k1_pay20 x14) x9 x10 x11 x12)

/-- The output window's staging buffer after the body: the body's one store. -/
def out1_17 (x0 : Vec F S256x512 .f32) (x1 : Vec F S1024x512 .f32) (x2 : Vec F S256x1024 .f32) (x3 : Vec F S512x512 .bf16) (x4 : Vec F S1x512 .f32) (x5 : Vec F S512x1024 .bf16) (x6 : Vec F S1x1024 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) : Vec F S256x512 .f32 :=
  View.canon [⟨r0, tcOut (View.ld x0 r0) (View.ld x1 r1) (View.ld x2 r6) (View.ld x3 r2) (View.ld x4 r3) (View.ld x5 r4) (View.ld x6 r5) (View.ld x7 r2) (View.ld x8 r3) (View.ld x9 r7) (View.ld x10 r8) (View.ld x11 r9) (View.ld x12 r3) (View.ld x13 r3) (View.ld x14 r3) (View.ld x15 r3) (View.ld x16 r3)⟩]

theorem cover1_17 (p0 : Vec F S256x512 .f32) (y : S256x512.Idx) :
    ∃ pc ∈ ([⟨r0, p0⟩] : List (View.Piece (Elt F) S256x512 .f32)), y ∈ pc.1.set :=
  View.cover_of_tiled [⟨r0, p0⟩] S256x512.size (by rfl) y

/-! ## The body's triple -/

set_option maxHeartbeats 1000000 in
/-- The body on whole staging buffers holding the input blocks runs to its return, the inputs as they were and the output at
    `out1_17` of them. -/
theorem sound_kernel (c : Dev nD) (E : Set ℕ) (i : grid1.Coords) (arg1 : Memref sig .tc .vmem S256x512 .f32) (harg1 : arg1.IsWhole) (arg2 : Memref sig .tc .vmem S1024x512 .f32) (harg2 : arg2.IsWhole) (arg3 : Memref sig .tc .vmem S256x1024 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S2048x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S256x512 .f32) (harg18 : arg18.IsWhole)
    (x0 : Vec F S256x512 .f32) (x1 : Vec F S1024x512 .f32) (x2 : Vec F S256x1024 .f32) (x3 : Vec F S512x512 .bf16) (x4 : Vec F S1x512 .f32) (x5 : Vec F S512x1024 .bf16) (x6 : Vec F S1x1024 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out1_17 x0 x1 x2 x3 x4 x5 x6 x7 x8 x9 x10 x11 x12 x13 x14 x15 x16)) -∗ Q ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  simp only [cc1__tc_body_eq_skeleton]; unfold cc1__tc_body_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  refine (View.read_writes_eq_canon _ _ _ (cover1_17 _)).trans ?_
  rfl

/-! ## The pipeline's proof data, from any contents `V` of the buffers -/

section Region

variable (V : (c : Dev nD) → (b : Ref sig .tc) → Buf (Elt F) ((c : Thread nD τ).loc b))

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays at `V`; after the body each input's buffer at its block and the output's at `out1_17` of
    the input blocks; the invariant the scoped buffers the pipeline does not stage; nothing owed; full shares. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => out1_17 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t)
    | ⟨_ + 18, h⟩ => absurd h (Nat.not_lt.2 (Nat.le_add_left _ _))
  Φ _ := Pipeline.scopedRest (Ix := HIx 1) (Name := ℕ) (U := UU) (Lvl := ℕ) (Val := Elt F) spec1 c
  q _ := fullShare
  owed _ := 0

theorem A_eq (c : Dev nD) (w : Fin cfg1.W) : (dat V c).A w = V c (Pipeline.arrRef spec1 w) := rfl

theorem after1_0 (c : Dev nD) (t : Fin cfg1.N) : (dat V c).after 0 t = iblk V c 0 t := rfl
theorem after1_1 (c : Dev nD) (t : Fin cfg1.N) : (dat V c).after 1 t = iblk V c 1 t := rfl
theorem after1_2 (c : Dev nD) (t : Fin cfg1.N) : (dat V c).after 2 t = iblk V c 2 t := rfl
theorem after1_3 (c : Dev nD) (t : Fin cfg1.N) : (dat V c).after 3 t = iblk V c 3 t := rfl
theorem after1_4 (c : Dev nD) (t : Fin cfg1.N) : (dat V c).after 4 t = iblk V c 4 t := rfl
theorem after1_5 (c : Dev nD) (t : Fin cfg1.N) : (dat V c).after 5 t = iblk V c 5 t := rfl
theorem after1_6 (c : Dev nD) (t : Fin cfg1.N) : (dat V c).after 6 t = iblk V c 6 t := rfl
theorem after1_7 (c : Dev nD) (t : Fin cfg1.N) : (dat V c).after 7 t = iblk V c 7 t := rfl
theorem after1_8 (c : Dev nD) (t : Fin cfg1.N) : (dat V c).after 8 t = iblk V c 8 t := rfl
theorem after1_9 (c : Dev nD) (t : Fin cfg1.N) : (dat V c).after 9 t = iblk V c 9 t := rfl
theorem after1_10 (c : Dev nD) (t : Fin cfg1.N) : (dat V c).after 10 t = iblk V c 10 t := rfl
theorem after1_11 (c : Dev nD) (t : Fin cfg1.N) : (dat V c).after 11 t = iblk V c 11 t := rfl
theorem after1_12 (c : Dev nD) (t : Fin cfg1.N) : (dat V c).after 12 t = iblk V c 12 t := rfl
theorem after1_13 (c : Dev nD) (t : Fin cfg1.N) : (dat V c).after 13 t = iblk V c 13 t := rfl
theorem after1_14 (c : Dev nD) (t : Fin cfg1.N) : (dat V c).after 14 t = iblk V c 14 t := rfl
theorem after1_15 (c : Dev nD) (t : Fin cfg1.N) : (dat V c).after 15 t = iblk V c 15 t := rfl
theorem after1_16 (c : Dev nD) (t : Fin cfg1.N) : (dat V c).after 16 t = iblk V c 16 t := rfl
theorem after1_17 (c : Dev nD) (t : Fin cfg1.N) : (dat V c).after 17 t = out1_17 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) := by
  dsimp only [dat]

/-- Each input's current staging buffer holds its block at every point. -/
theorem before1_0 (c : Dev nD) (t : Fin cfg1.N) (d) : (dat V c).before 0 t d = iblk V c 0 t :=
  ((dat V c).before_in_eq_fetched 0 rfl (fun _ => rfl) (fun _ _ _ => rfl) (fun t => by rw [after1_0]; unfold Dat.blockOf iblk; rw [A_eq]; try rfl) t d).trans (by unfold Dat.fetched Dat.blockOf iblk; rw [A_eq]; try rfl)
theorem before1_1 (c : Dev nD) (t : Fin cfg1.N) (d) : (dat V c).before 1 t d = iblk V c 1 t :=
  ((dat V c).before_in_eq_fetched 1 rfl (fun _ => rfl) (fun _ _ _ => rfl) (fun t => by rw [after1_1]; unfold Dat.blockOf iblk; rw [A_eq]; try rfl) t d).trans (by unfold Dat.fetched Dat.blockOf iblk; rw [A_eq]; try rfl)
theorem before1_2 (c : Dev nD) (t : Fin cfg1.N) (d) : (dat V c).before 2 t d = iblk V c 2 t :=
  ((dat V c).before_in_eq_fetched 2 rfl (fun _ => rfl) (fun _ _ _ => rfl) (fun t => by rw [after1_2]; unfold Dat.blockOf iblk; rw [A_eq]; try rfl) t d).trans (by unfold Dat.fetched Dat.blockOf iblk; rw [A_eq]; try rfl)
theorem before1_3 (c : Dev nD) (t : Fin cfg1.N) (d) : (dat V c).before 3 t d = iblk V c 3 t :=
  ((dat V c).before_in_eq_fetched 3 rfl (fun _ => rfl) (fun _ _ _ => rfl) (fun t => by rw [after1_3]; unfold Dat.blockOf iblk; rw [A_eq]; try rfl) t d).trans (by unfold Dat.fetched Dat.blockOf iblk; rw [A_eq]; try rfl)
theorem before1_4 (c : Dev nD) (t : Fin cfg1.N) (d) : (dat V c).before 4 t d = iblk V c 4 t :=
  ((dat V c).before_in_eq_fetched 4 rfl (fun _ => rfl) (fun _ _ _ => rfl) (fun t => by rw [after1_4]; unfold Dat.blockOf iblk; rw [A_eq]; try rfl) t d).trans (by unfold Dat.fetched Dat.blockOf iblk; rw [A_eq]; try rfl)
theorem before1_5 (c : Dev nD) (t : Fin cfg1.N) (d) : (dat V c).before 5 t d = iblk V c 5 t :=
  ((dat V c).before_in_eq_fetched 5 rfl (fun _ => rfl) (fun _ _ _ => rfl) (fun t => by rw [after1_5]; unfold Dat.blockOf iblk; rw [A_eq]; try rfl) t d).trans (by unfold Dat.fetched Dat.blockOf iblk; rw [A_eq]; try rfl)
theorem before1_6 (c : Dev nD) (t : Fin cfg1.N) (d) : (dat V c).before 6 t d = iblk V c 6 t :=
  ((dat V c).before_in_eq_fetched 6 rfl (fun _ => rfl) (fun _ _ _ => rfl) (fun t => by rw [after1_6]; unfold Dat.blockOf iblk; rw [A_eq]; try rfl) t d).trans (by unfold Dat.fetched Dat.blockOf iblk; rw [A_eq]; try rfl)
theorem before1_7 (c : Dev nD) (t : Fin cfg1.N) (d) : (dat V c).before 7 t d = iblk V c 7 t :=
  ((dat V c).before_in_eq_fetched 7 rfl (fun _ => rfl) (fun _ _ _ => rfl) (fun t => by rw [after1_7]; unfold Dat.blockOf iblk; rw [A_eq]; try rfl) t d).trans (by unfold Dat.fetched Dat.blockOf iblk; rw [A_eq]; try rfl)
theorem before1_8 (c : Dev nD) (t : Fin cfg1.N) (d) : (dat V c).before 8 t d = iblk V c 8 t :=
  ((dat V c).before_in_eq_fetched 8 rfl (fun _ => rfl) (fun _ _ _ => rfl) (fun t => by rw [after1_8]; unfold Dat.blockOf iblk; rw [A_eq]; try rfl) t d).trans (by unfold Dat.fetched Dat.blockOf iblk; rw [A_eq]; try rfl)
theorem before1_9 (c : Dev nD) (t : Fin cfg1.N) (d) : (dat V c).before 9 t d = iblk V c 9 t :=
  ((dat V c).before_in_eq_fetched 9 rfl (fun _ => rfl) (fun _ _ _ => rfl) (fun t => by rw [after1_9]; unfold Dat.blockOf iblk; rw [A_eq]; try rfl) t d).trans (by unfold Dat.fetched Dat.blockOf iblk; rw [A_eq]; try rfl)
theorem before1_10 (c : Dev nD) (t : Fin cfg1.N) (d) : (dat V c).before 10 t d = iblk V c 10 t :=
  ((dat V c).before_in_eq_fetched 10 rfl (fun _ => rfl) (fun _ _ _ => rfl) (fun t => by rw [after1_10]; unfold Dat.blockOf iblk; rw [A_eq]; try rfl) t d).trans (by unfold Dat.fetched Dat.blockOf iblk; rw [A_eq]; try rfl)
theorem before1_11 (c : Dev nD) (t : Fin cfg1.N) (d) : (dat V c).before 11 t d = iblk V c 11 t :=
  ((dat V c).before_in_eq_fetched 11 rfl (fun _ => rfl) (fun _ _ _ => rfl) (fun t => by rw [after1_11]; unfold Dat.blockOf iblk; rw [A_eq]; try rfl) t d).trans (by unfold Dat.fetched Dat.blockOf iblk; rw [A_eq]; try rfl)
theorem before1_12 (c : Dev nD) (t : Fin cfg1.N) (d) : (dat V c).before 12 t d = iblk V c 12 t :=
  ((dat V c).before_in_eq_fetched 12 rfl (fun _ => rfl) (fun _ _ _ => rfl) (fun t => by rw [after1_12]; unfold Dat.blockOf iblk; rw [A_eq]; try rfl) t d).trans (by unfold Dat.fetched Dat.blockOf iblk; rw [A_eq]; try rfl)
theorem before1_13 (c : Dev nD) (t : Fin cfg1.N) (d) : (dat V c).before 13 t d = iblk V c 13 t :=
  ((dat V c).before_in_eq_fetched 13 rfl (fun _ => rfl) (fun _ _ _ => rfl) (fun t => by rw [after1_13]; unfold Dat.blockOf iblk; rw [A_eq]; try rfl) t d).trans (by unfold Dat.fetched Dat.blockOf iblk; rw [A_eq]; try rfl)
theorem before1_14 (c : Dev nD) (t : Fin cfg1.N) (d) : (dat V c).before 14 t d = iblk V c 14 t :=
  ((dat V c).before_in_eq_fetched 14 rfl (fun _ => rfl) (fun _ _ _ => rfl) (fun t => by rw [after1_14]; unfold Dat.blockOf iblk; rw [A_eq]; try rfl) t d).trans (by unfold Dat.fetched Dat.blockOf iblk; rw [A_eq]; try rfl)
theorem before1_15 (c : Dev nD) (t : Fin cfg1.N) (d) : (dat V c).before 15 t d = iblk V c 15 t :=
  ((dat V c).before_in_eq_fetched 15 rfl (fun _ => rfl) (fun _ _ _ => rfl) (fun t => by rw [after1_15]; unfold Dat.blockOf iblk; rw [A_eq]; try rfl) t d).trans (by unfold Dat.fetched Dat.blockOf iblk; rw [A_eq]; try rfl)
theorem before1_16 (c : Dev nD) (t : Fin cfg1.N) (d) : (dat V c).before 16 t d = iblk V c 16 t :=
  ((dat V c).before_in_eq_fetched 16 rfl (fun _ => rfl) (fun _ _ _ => rfl) (fun t => by rw [after1_16]; unfold Dat.blockOf iblk; rw [A_eq]; try rfl) t d).trans (by unfold Dat.fetched Dat.blockOf iblk; rw [A_eq]; try rfl)

/-- What the body is called with at point `t`, -/
def bodyPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d))
    ∗ (∃ d, owns (c : Thread nD τ) (st1_17 t) fullShare ((dat V c).before 17 t d)))

/-- and what it returns. -/
def bodyPost (c : Dev nD) (t : Fin cfg1.N) : sProp 𝕄 :=
  iprop((dat V c).Φ t.succ ∗ (dat V c).owesAt none t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t)
    ∗ owns (c : Thread nD τ) (st1_16 t) fullShare ((dat V c).after 16 t)
    ∗ owns (c : Thread nD τ) (st1_17 t) fullShare ((dat V c).after 17 t))

/-- The body at any point: the triple at the staged blocks, the rest passing through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7, before1_8, before1_9, before1_10, before1_11, before1_12, before1_13, before1_14, before1_15, before1_16]
  rw [show (dat V c).Φ t.succ = (dat V c).Φ t.castSucc from rfl,
    show (dat V c).owesAt none t.succ = (dat V c).owesAt none t.castSucc from rfl,
    after1_0, after1_1, after1_2, after1_3, after1_4, after1_5, after1_6, after1_7, after1_8, after1_9, after1_10, after1_11, after1_12, after1_13, after1_14, after1_15, after1_16, after1_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid1.coords t) _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg1.N) :
    defs₀ (F := F) .tc cfg1.body (cfg1.bodyArgs t (cfg1.slots t)) = bodyAt1 t := rfl

/-- The pipeline's obligation for the body, at every point. -/
theorem body_obligation (c : Dev nD) : BodyObligation (dat (F := F) V c) (defs₀ (F := F)) Variants.none none Set.univ := fun t => by
  rw [bigSep_W1, bigSep_W1, defs₀_row]
  exact triple_restated (sound_body V c t) rfl .rfl fun _ => .rfl

end Region

end Cert.Proof.Ki

end
-- ==== Proof.Ki.Main.lean ====
/-
  @main on the TensorCore: the reshape of the indices, the counting call, the host operations that lay out the layer's
  operands, and the layer's region; then the launch of the whole program, whose final state holds every unscoped
  buffer of the TensorCore at the contents named here.
-/
module

public import proofs.«01_k».proof.Proof.Ki.Region

@[expose] public section

noncomputable section

namespace Cert.Proof.Ki

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The reshape before the counting call. -/
def op0 : HloOp τ sig (Elt F) := (StableHlo.reshape main_arg2 main_v0 (rfl : (.i32 : EltTy) = .i32) shapeCasts_S2048x32_S65536)
/-- The operations between the counting call and the layer. -/
def hostOps : List (HloOp τ sig (Elt F)) := [
  StableHlo.reshape main_v1 main_v2 (rfl : (.f32 : EltTy) = .f32) shapeCasts_S2097152_S2048x1024,
  StableHlo.binary main_arg8 main_arg10 main_v3 ((fun a b => concatenate S512x1024 1 [⟨S512x512, a⟩, ⟨S512x512, b⟩] concatenates_S512x512_S512x512_S512x1024_d1) : (⟨S512x512, .f32⟩ : BufTy).Contents (Elt F) → (⟨S512x512, .f32⟩ : BufTy).Contents (Elt F) → (⟨S512x1024, .f32⟩ : BufTy).Contents (Elt F)),
  StableHlo.binary main_arg9 main_arg11 main_v4 ((fun a b => concatenate S1024 0 [⟨S512, a⟩, ⟨S512, b⟩] concatenates_S512_S512_S1024_d0) : (⟨S512, .f32⟩ : BufTy).Contents (Elt F) → (⟨S512, .f32⟩ : BufTy).Contents (Elt F) → (⟨S1024, .f32⟩ : BufTy).Contents (Elt F)),
  StableHlo.reshape main_v4 main_v5 (rfl : (.f32 : EltTy) = .f32) shapeCasts_S1024_S1x1024,
  StableHlo.nullary main_cst (constant S_ .f32 0x3E000000#32),
  StableHlo.unary main_cst main_v6 (broadcastInDim S512x512 ![] bcast_S_S512x512 : (⟨S_, .f32⟩ : BufTy).Contents (Elt F) → (⟨S512x512, .f32⟩ : BufTy).Contents (Elt F)),
  StableHlo.binary main_arg6 main_v6 main_v7 (mulf : (⟨S512x512, .f32⟩ : BufTy).Contents (Elt F) → (⟨S512x512, .f32⟩ : BufTy).Contents (Elt F) → (⟨S512x512, .f32⟩ : BufTy).Contents (Elt F)),
  StableHlo.unary main_v7 main_v8 ((truncf .bf16 · bitsLt_bf16_f32) : (⟨S512x512, .f32⟩ : BufTy).Contents (Elt F) → (⟨S512x512, .bf16⟩ : BufTy).Contents (Elt F)),
  StableHlo.reshape main_arg7 main_v9 (rfl : (.f32 : EltTy) = .f32) shapeCasts_S512_S1x512,
  StableHlo.nullary main_cst_0 (constant S_ .f32 0x3E000000#32),
  StableHlo.unary main_cst_0 main_v10 (broadcastInDim S1x512 ![] bcast_S_S1x512 : (⟨S_, .f32⟩ : BufTy).Contents (Elt F) → (⟨S1x512, .f32⟩ : BufTy).Contents (Elt F)),
  StableHlo.binary main_v9 main_v10 main_v11 (mulf : (⟨S1x512, .f32⟩ : BufTy).Contents (Elt F) → (⟨S1x512, .f32⟩ : BufTy).Contents (Elt F) → (⟨S1x512, .f32⟩ : BufTy).Contents (Elt F)),
  StableHlo.unary main_v3 main_v12 ((truncf .bf16 · bitsLt_bf16_f32) : (⟨S512x1024, .f32⟩ : BufTy).Contents (Elt F) → (⟨S512x1024, .bf16⟩ : BufTy).Contents (Elt F)),
  StableHlo.unary main_arg12 main_v13 ((truncf .bf16 · bitsLt_bf16_f32) : (⟨S512x512, .f32⟩ : BufTy).Contents (Elt F) → (⟨S512x512, .bf16⟩ : BufTy).Contents (Elt F)),
  StableHlo.reshape main_arg13 main_v14 (rfl : (.f32 : EltTy) = .f32) shapeCasts_S512_S1x512,
  StableHlo.unary main_arg14 main_v15 ((truncf .bf16 · bitsLt_bf16_f32) : (⟨S512x2048, .f32⟩ : BufTy).Contents (Elt F) → (⟨S512x2048, .bf16⟩ : BufTy).Contents (Elt F)),
  StableHlo.reshape main_arg15 main_v16 (rfl : (.f32 : EltTy) = .f32) shapeCasts_S2048_S1x2048,
  StableHlo.unary main_arg16 main_v17 ((truncf .bf16 · bitsLt_bf16_f32) : (⟨S2048x512, .f32⟩ : BufTy).Contents (Elt F) → (⟨S2048x512, .bf16⟩ : BufTy).Contents (Elt F)),
  StableHlo.reshape main_arg17 main_v18 (rfl : (.f32 : EltTy) = .f32) shapeCasts_S512_S1x512,
  StableHlo.reshape main_arg18 main_v19 (rfl : (.f32 : EltTy) = .f32) shapeCasts_S512_S1x512,
  StableHlo.reshape main_arg19 main_v20 (rfl : (.f32 : EltTy) = .f32) shapeCasts_S512_S1x512,
  StableHlo.reshape main_arg20 main_v21 (rfl : (.f32 : EltTy) = .f32) shapeCasts_S512_S1x512,
  StableHlo.reshape main_arg21 main_v22 (rfl : (.f32 : EltTy) = .f32) shapeCasts_S512_S1x512]

theorem hostOps_bufs : ∀ op ∈ (hostOps (F := F)), op.bufs ⊆ StableHlo.tcRefs τ sig := by
  unfold hostOps
  simp only [List.forall_mem_cons, List.not_mem_nil, StableHlo.unary_bufs_sub, StableHlo.binary_bufs_sub, StableHlo.nullary_bufs_sub, StableHlo.reshape_bufs_sub, IsEmpty.forall_iff, implies_true, and_self]
theorem op0_bufs : (op0 (F := F)).bufs ⊆ StableHlo.tcRefs τ sig := StableHlo.reshape_bufs_sub _ _ _ _ _ _
theorem hostOps_fresh : ∀ op ∈ (hostOps (F := F)), op.fresh = ∅ := by
  unfold hostOps
  simp only [List.forall_mem_cons, List.not_mem_nil, IsEmpty.forall_iff, implies_true, and_true]
  repeat' apply And.intro
  all_goals rfl

set_option maxRecDepth 16384 in
/-- @main: the reshape, the call, the operations, the region. -/
theorem main_eq (d : Dev nD) : main (F := F) d = (hlo rfl op0 fun _ => .ret (⟨⟩ : PUnit)) >>= fun _ => (K (F := F)).run d 0 >>= fun _ =>
    (StableHlo.seq hostOps >>= fun _ => SparseCore.liftProg (.op (.customCall (Pipeline.entry 0) ()) fun _ => .ret (⟨⟩ : PUnit))) := by
  rw [StableHlo.seq_bind_seqK]
  rfl

section Run

variable (m : (ℓ : Loc nD τ sig) → Buf (Elt F) ℓ) (ρ : Dev nD → PrngReg)

/-! ## The contents of the buffers, step by step -/

abbrev rV1 : DevRef τ sig := Proc.devRef .tc main_v1
abbrev rV23 : DevRef τ sig := Proc.devRef .tc main_v23

def W0 (d : Dev nD) : Valuation τ sig (Elt F) := fun b => m (d, b)
def W1 (d : Dev nD) : Valuation τ sig (Elt F) := op0.result (W0 m d)
/-- The flat indices as the counting call finds them. -/
def Iv (d : Dev nD) : Buf (Elt F) (iLoc d) := W1 m d (Proc.devRef .tc main_v0)
def W2 (d : Dev nD) : Valuation τ sig (Elt F) := Function.update (W1 m d) rV1 (OUT d (Iv m d))
def W3 (d : Dev nD) : Valuation τ sig (Elt F) := StableHlo.after hostOps (W2 m d)
abbrev Vr (d : Dev nD) (b : Ref sig .tc) : Buf (Elt F) ((d : Thread nD τ).loc b) := W3 m d (Proc.devRef .tc b)
/-- The output array after the layer. -/
def outArr (d : Dev nD) : Buf (Elt F) ((d : Thread nD τ).loc main_v23) := (dat (Vr m) d).arrAt 17 cfg1.N
def W4 (d : Dev nD) : Valuation τ sig (Elt F) := Function.update (W3 m d) rV23 (outArr m d)
abbrev Vp (d : Dev nD) (b : Ref sig .tc) : Buf (Elt F) ((d : Thread nD τ).loc b) := W4 m d (Proc.devRef .tc b)

theorem Vp_out (d : Dev nD) : Vp m d main_v23 = outArr m d := by
  unfold Vp W4; exact Function.update_self _ _ _
theorem Vp_ne (d : Dev nD) (b : Ref sig .tc) (h : b ≠ main_v23) : Vp m d b = Vr m d b := by
  unfold Vp W4; exact Function.update_of_ne (StableHlo.devRef_ne_of_ne h) _ _

/-! ## The region -/

abbrev adm0 : (p : Fin 1) → (pcfgs (F := F) p).Adm := fun | ⟨0, _⟩ => ⟨fun k => k.elim0, trivial⟩ | ⟨_ + 1, h⟩ => absurd h (Nat.not_lt.2 (Nat.le_add_left _ _))

/-- The proof data of the one pipeline. -/
def pdats : (p : Fin 1) → (c : Dev nD) → Dat τ (Elt F) (HIx 1) ℕ UU ℕ (Pipeline.pin (pcfgs (F := F)) adm0 p) c
  | ⟨0, _⟩ => fun c => dat (Vr m) c
  | ⟨_ + 1, h⟩ => absurd h (Nat.not_lt.2 (Nat.le_add_left _ _))

set_option backward.isDefEq.respectTransparency.types false in
set_option maxHeartbeats 1000000 in
/-- The layer's region: entered with every unscoped buffer at `Vr` and left with them at `Vp`. -/
def reg : Pipeline.RegionSeg (pcfgs (F := F)) adm0 (pdats m) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation (Vr m) c).loose
  hwaits := Pipeline.hwaits_of_owed_zero _ _ _ _ (K (F := F)).L (K (F := F)).lev 0 fun _ _ => rfl
  pre c := iprop(unscopedBufs c (Vr m c) ∗ ∃ W, owes (c : Thread nD τ) (0 : CellTallies nD τ sig (HIx 1)) W)
  post c := iprop(unscopedBufs c (Vp m c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec1 c (Vr m c)
  hentry c := by
    rw [Pipeline.ownSems0_none]
    have hsplit := Pipeline.arrays_of_unscopedBufs (p := 0) (pcfgs (F := F)) adm0 (pdats m) launch1.win launch1.arr_whole c
      ((pdats m 0 c).share_full fun _ => rfl) (Vr m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats m 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm0 (Ix := HIx 1) (Name := ℕ) (U := UU) (Lvl := ℕ) launch1.win launch1.arr_whole c
      (pdats m) ((pdats m 0 c).share_full fun _ => rfl) (Vr m c) (Vp m c) ((pdats m 0 c).arrAt · cfg1.N)
      (fun w => by
        fin_cases w
        · exact ((pdats m 0 c).arrAt_in 0 rfl _).trans (Vp_ne m c main_arg0 (by decide)).symm
        · exact ((pdats m 0 c).arrAt_in 1 rfl _).trans (Vp_ne m c main_arg1 (by decide)).symm
        · exact ((pdats m 0 c).arrAt_in 2 rfl _).trans (Vp_ne m c main_v2 (by decide)).symm
        · exact ((pdats m 0 c).arrAt_in 3 rfl _).trans (Vp_ne m c main_v8 (by decide)).symm
        · exact ((pdats m 0 c).arrAt_in 4 rfl _).trans (Vp_ne m c main_v11 (by decide)).symm
        · exact ((pdats m 0 c).arrAt_in 5 rfl _).trans (Vp_ne m c main_v12 (by decide)).symm
        · exact ((pdats m 0 c).arrAt_in 6 rfl _).trans (Vp_ne m c main_v5 (by decide)).symm
        · exact ((pdats m 0 c).arrAt_in 7 rfl _).trans (Vp_ne m c main_v13 (by decide)).symm
        · exact ((pdats m 0 c).arrAt_in 8 rfl _).trans (Vp_ne m c main_v14 (by decide)).symm
        · exact ((pdats m 0 c).arrAt_in 9 rfl _).trans (Vp_ne m c main_v15 (by decide)).symm
        · exact ((pdats m 0 c).arrAt_in 10 rfl _).trans (Vp_ne m c main_v16 (by decide)).symm
        · exact ((pdats m 0 c).arrAt_in 11 rfl _).trans (Vp_ne m c main_v17 (by decide)).symm
        · exact ((pdats m 0 c).arrAt_in 12 rfl _).trans (Vp_ne m c main_v18 (by decide)).symm
        · exact ((pdats m 0 c).arrAt_in 13 rfl _).trans (Vp_ne m c main_v19 (by decide)).symm
        · exact ((pdats m 0 c).arrAt_in 14 rfl _).trans (Vp_ne m c main_v20 (by decide)).symm
        · exact ((pdats m 0 c).arrAt_in 15 rfl _).trans (Vp_ne m c main_v21 (by decide)).symm
        · exact ((pdats m 0 c).arrAt_in 16 rfl _).trans (Vp_ne m c main_v22 (by decide)).symm
        · exact (Vp_out m c).symm)
      (fun b hb => Vp_ne m c b fun h => hb (h ▸ Finset.mem_image.mpr ⟨17, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem reg_pre (d : Dev nD) : (reg m).pre d = iprop(unscopedBufs d (Vr m d) ∗ ∃ W, owes (d : Thread nD τ) (0 : CellTallies nD τ sig (HIx 1)) W) := rfl
theorem reg_post (d : Dev nD) : (reg m).post d = iprop(unscopedBufs d (Vp m d) ∗ ∃ W, owes (d : Thread nD τ) (0 : CellTallies nD τ sig (HIx 1)) W) := rfl

/-! ## The launch element -/

/-- The launch element: the handshakes' rounds and the pipeline's. -/
def u₀ : UU := (initOf (K (F := F)).hsCells (K (F := F)).hsToks,
  (initOf (Pipeline.cells cfgs cellOf_inj) (Pipeline.launchToks cfgs cellOf_inj), 1))

/-- What the launch deals device `d` for its pipeline. -/
abbrev G (d : Dev nD) : sProp 𝕄 := iprop((bigSep Finset.univ fun p : Fin 1 => Pipeline.cellsGhost cfgs EP p d) ∗ bigSep Finset.univ fun p : Fin 1 => Pipeline.toksInit cfgs EP p d)

omit [FloatOps F] in
theorem bigSep_emp' {J : Type} (s : Finset J) : (bigSep s fun _ => iprop(emp)) = (iprop(emp) : sProp 𝕄) := bigSep_emp_const s

theorem hu₀ (I : (d : Dev nD) → Buf (Elt F) (iLoc d)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P I).x q thr) := by
  unfold u₀
  iintro Hu
  ihave H := (ownU_pair (initOf (K (F := F)).hsCells (K (F := F)).hsToks) _) $$ Hu
  icases H with ⟨HH, HR⟩
  ihave H := (own_pair_emb (embR : Emb (UP × Counters) 𝕄) _ _) $$ HR
  icases H with ⟨HP, -⟩
  imod (show (BI.own (((Emb.inl : Emb UP (UP × Counters)).trans embR) (initOf (Pipeline.cells cfgs cellOf_inj) (Pipeline.launchToks cfgs cellOf_inj))) : sProp 𝕄) ⊢ _ from
    Pipeline.fund_ghost cfgs EP cellOf_inj) $$ HP with ⟨Hc, Ht⟩
  imodintro
  isplitl [HH]; · iexact HH
  isplitl [Hc Ht]
  · rw [bigSep_sep']
    isplitl [Hc]; · iexact Hc
    iexact Ht
  rw [show (bigSep Finset.univ fun thr : Thread nD τ => bigSep Finset.univ fun q : Fin 1 => (P (F := F) I).x q thr) = bigSep Finset.univ fun _ => iprop(emp) from
    bigSep_congr fun _ _ => bigSep_univ_of_subsingleton (0 : Fin 1), bigSep_emp']
  iempintro

/-! ## @main's run -/

abbrev S2 : Finset (DevRef τ sig) := {Proc.devRef .tc main_v0, Proc.devRef .tc main_v1}
theorem S2_sub : S2 ⊆ Pipeline.ucRefs τ sig := by decide

theorem held_S2 (d : Dev nD) (W : Valuation τ sig (Elt F)) :
    (StableHlo.held (d.tc : Thread nD τ) S2 W : sProp 𝕄) = iprop((iLoc d ↦{fullShare} W (Proc.devRef .tc main_v0)) ∗ oLoc d ↦{fullShare} W (Proc.devRef .tc main_v1)) := by
  unfold StableHlo.held
  rw [SparseCore.bigSep_insert' (by decide), bigSep_singleton]

theorem held_W1 (d : Dev nD) :
    (StableHlo.held (d.tc : Thread nD τ) (Pipeline.ucRefs τ sig) (W1 m d) : sProp 𝕄)
      = iprop(((iLoc d ↦{fullShare} Iv m d) ∗ oLoc d ↦{fullShare} W1 m d (Proc.devRef .tc main_v1)) ∗ StableHlo.held (d.tc : Thread nD τ) (Pipeline.ucRefs τ sig \ S2) (W1 m d)) := by
  rw [StableHlo.held_sub_split _ S2_sub, held_S2]; rfl

theorem held_W2 (d : Dev nD) :
    (StableHlo.held (d.tc : Thread nD τ) (Pipeline.ucRefs τ sig) (W2 m d) : sProp 𝕄)
      = iprop(((iLoc d ↦{fullShare} Iv m d) ∗ oLoc d ↦{fullShare} OUT d (Iv m d)) ∗ StableHlo.held (d.tc : Thread nD τ) (Pipeline.ucRefs τ sig \ S2) (W1 m d)) := by
  rw [StableHlo.held_sub_split _ S2_sub, held_S2]
  rw [show W2 m d (Proc.devRef .tc main_v0) = Iv m d from Function.update_of_ne (by decide) _ _,
    show W2 m d (Proc.devRef .tc main_v1) = OUT d (Iv m d) from Function.update_self _ _ _]
  rw [StableHlo.held_congr (V := W2 m d) (V' := W1 m d) _ fun b hb => Function.update_of_ne (fun h => by
    subst h; exact (Finset.mem_sdiff.mp hb).2 (by decide)) _ _]

abbrev FIN (d : Dev nD) : sProp 𝕄 := StableHlo.held (d.tc : Thread nD τ) (Pipeline.ucRefs τ sig) (W4 m d)

set_option maxHeartbeats 1000000 in
/-- @main on device `d`'s TensorCore. -/
theorem hmain (κ : GSem nD τ sig → ℕ) (d : Dev nD) :
    iprop((K (F := F)).ctx EH (P (Iv m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (d.tc : Thread nD τ) (Pipeline.ucRefs τ sig) (W0 m d) from Pipeline.unscopedBufs_held d (W0 m d)]
  rw [main_eq, wp_bind]
  iintro ⟨#Hctx, Hst, ⟨Hb, Hh, Hts, -⟩, Hg⟩
  iapply (StableHlo.wp_hlo_within 𝒱 (d.tc : Thread nD τ) none Set.univ (op := op0) (S := Pipeline.ucRefs τ sig)
    (Pipeline.sub_ucRefs op0 op0_bufs) (V := W0 m d) (hf := rfl)) $$ [Hb Hh]
  · isplitl [Hb] <;> iassumption
  rw [show op0.result (W0 m d) = W1 m d from rfl]
  iintro ⟨Hb, Hh⟩
  rw [wp_ret]; imodintro
  rw [wp_bind]
  ihave Hh' := (Entails.of_eq (held_W1 m d)) $$ Hh
  icases Hh' with ⟨⟨Hi, Ho⟩, Hrest⟩
  iapply ((K (F := F)).wp_run (D (F := F)) 𝒱 (EH := EH) (P := P (Iv m)) κ d 0)
  isplitr; · iexact Hctx
  isplitl [Hst]; · iexact Hst
  isplitl [Hi Ho]
  · iapply (st0_of (Iv m) d (W1 m d (Proc.devRef .tc main_v1))); isplitl [Hi] <;> iassumption
  iintro ⟨Hst, Hdn⟩
  ihave Hdn' := (Entails.of_eq (dn0_eq (Iv m) d)) $$ Hdn
  iapply (StableHlo.wp_seq 𝒱 none Set.univ d (Pipeline.ucRefs τ sig) _ hostOps (fun op h => Pipeline.sub_ucRefs op (hostOps_bufs op h)) hostOps_fresh (W2 m d)) $$ [Hb Hdn' Hrest]
  · isplitl [Hb]; · iexact Hb
    rw [held_W2]; isplitl [Hdn'] <;> iassumption
  iintro ⟨Hb, Hh⟩
  rw [show StableHlo.after hostOps (W2 m d) = W3 m d from rfl]
  iapply ((K (F := F)).wp_liftProg (D (F := F)) 𝒱 (SparseCore.T d) Set.univ none _ _)
  ihave Hlev := (SparseCore.Cfg.ctx_levAts κ) $$ Hctx
  unfold SparseCore.Cfg.tcSt
  icases Hst with ⟨⟨%W, %hW, HO⟩, Hat, Hrd, Hrs, Htoks⟩
  icases Hg with ⟨Hc, Ht⟩
  iapply ((reg m).wp (pcfgs (F := F)) adm0 (pdats m) none cellOf_inj EP defs₀ 𝒱₀ (K (F := F)).L (K (F := F)).lev d none (fun u hu => nomatch hu) _ _)
  isplitl [Hat Hrd Hrs Htoks Hts]
  · iintro ⟨Hb, Hp⟩
    ihave Hp' := (Entails.of_eq (reg_post m d)) $$ Hp
    icases Hp' with ⟨Hub, ⟨%W', HO⟩⟩
    rw [wp_ret]; imodintro
    isplitl [HO Hat Hrd Hrs Htoks]
    · isplitl [HO]
      · iexists W'
        isplitr
        · ipureintro
          intro p _
          rcases p with ⟨s, _ | q⟩
          · exact Nat.zero_le _
          · exact ((K (F := F)).lev_some_le _ q).trans (by have := q.isLt; show 8 * q.val + 7 ≤ 8 * 1; omega)
        rw [SparseCore.Cfg.Otc_end _ d (le_refl 1)]; iexact HO
      isplitl [Hat]; · iexact Hat
      isplitl [Hrd]; · iexact Hrd
      isplitl [Hrs]; · iexact Hrs
      iexact Htoks
    isplitl [Hub]
    · rw [show FIN m d = unscopedBufs d (Vp m d) from (Pipeline.unscopedBufs_held d (W4 m d)).symm]; iexact Hub
    isplitl [Hb] <;> iassumption
  isplitl [Hb]; · iexact Hb
  isplitl [Hh HO]
  · iapply (Entails.of_eq (reg_pre m d).symm)
    isplitl [Hh]
    · rw [show (unscopedBufs d (Vr m d) : sProp 𝕄) = StableHlo.held (d.tc : Thread nD τ) (Pipeline.ucRefs τ sig) (W3 m d) from Pipeline.unscopedBufs_held d (W3 m d)]; iexact Hh
    iexists W
    rw [← SparseCore.Cfg.Otc_end (K (F := F)) d (le_refl 1)]; iexact HO
  isplitl [Hlev]; · iexact Hlev
  ihave Hc' := (Entails.of_eq (bigSep_univ_of_subsingleton (0 : Fin 1))) $$ Hc
  ihave Ht' := (Entails.of_eq (bigSep_univ_of_subsingleton (0 : Fin 1))) $$ Ht
  isplitl [Hc']; · iexact Hc'
  iexact Ht'

def fq (d : Dev nD) (s' : Phys nD τ sig (Elt F)) : Prop := ∀ b ∈ Pipeline.ucRefs τ sig, s'.mem.mem (d, b) = W4 m d b

theorem hfin (d : Dev nD) (s' : Phys nD τ sig (Elt F)) : iprop(FIN m d ∗ SI s') ⊢ (⌜fq m d s'⌝ : sProp 𝕄) := by
  unfold fq
  refine (Laws.forall_intro fun b => ?_).trans Laws.pure_forall.2
  by_cases hb : b ∈ Pipeline.ucRefs τ sig
  · unfold FIN StableHlo.held
    iintro ⟨H, HSI⟩
    ihave Hx := (show (bigSep (Pipeline.ucRefs τ sig) fun b => ((d, b) ↦{fullShare} W4 m d b : sProp 𝕄)) ⊢ iprop((d, b) ↦{fullShare} W4 m d b) from bigSep_elim hb) $$ H
    ihave H := (SI_pointsTo_agree (st := s') (ℓ := (d, b)) (I := Finset.univ) (q := fullShare) (f := W4 m d b)) $$ [HSI Hx]
    · isplitl [HSI] <;> iassumption
    icases H with %hx
    ipureintro; exact fun _ => funext fun i => hx i (Finset.mem_univ i)
  · iintro -; ipureintro; exact fun h => absurd h hb

/-- The final states: every unscoped buffer at the contents named, every counter at zero. -/
def QC : PUnit × MemSt nD τ sig (Elt F) → Prop := fun r => (∀ d, ∀ b ∈ Pipeline.ucRefs τ sig, r.2.mem (d, b) = W4 m d b) ∧ r.2.sem = fun _ => 0

/-- The program's run, from any memory whose flat indices are in range. -/
theorem run_main [∀ e, Nonempty (Elt F e)] (hI : ∀ d p, wordI d (Iv m d) p < 1024) :
    θ_run (defs (F := F)) (threads (F := F)) ⟨m, fun _ => 0, ρ⟩ (QC m) :=
  SparseCore.Cfg.θ_run_sc_quiescent (K := K (F := F)) (D := D (F := F)) (𝒱 := 𝒱) (EH := EH) (P := P (Iv m)) (A := ∅) facts v₀
    (fun q hq => match q with | 0 => nomatch hq)
    (fun q _ => match q with | 0 => tileObl (Iv m) hI facts)
    (fun q _ => match q with | 0 => SparseCore.Cfg.VecSplit.of_plain (vecSplit (Iv m)))
    m ρ main (G (F := F)) (FIN m) (u₀ (F := F)) (sep_elim_left.trans (hu₀ (Iv m))) (hmain m ρ) (fq m) (hfin m) (QC m) (fun _ h hz => ⟨h, hz⟩)

end Run

end Cert.Proof.Ki

end
-- ==== Proof.Ki.Frame.lean ====
/-
  The arguments after the whole program, and the index range the counting call needs, from the precondition.
-/
module

public import proofs.«01_k».proof.Proof.Ki.Main
public import proofs.«01_k».proof.Proof.Gen.Pre_drawn
public import proofs.«01_k».proof.Proof.Pre
public import Idealize.ShloMosaic.Lib.Pipeline.Value

@[expose] public section

noncomputable section

namespace Cert.Proof.Ki

open Cert.KernelIdeal Cert.KernelIdeal.Gen
open Idealize.ShloMosaic Idealize.ShloMosaic.TcCoe Idealize.ShloMosaic.Tactic Idealize.ShloMosaic.ValueIdx
open Idealize.SL.Sem

variable {F : FTy → Type} [FloatOps F]
variable (m : (ℓ : Loc nD τ sig) → Buf (Elt F) ℓ)

/-- The buffers the host operations write. -/
abbrev hostW : List (Ref sig .tc) := [main_v2, main_v3, main_v4, main_v5, main_cst, main_v6, main_v7, main_v8, main_v9, main_cst_0, main_v10, main_v11,
  main_v12, main_v13, main_v14, main_v15, main_v16, main_v17, main_v18, main_v19, main_v20, main_v21, main_v22]

/-- They write no others. -/
theorem hostOps_writes : (hostOps : List (HloOp τ sig (Elt F))).Forall fun op => op.writes ⊆ (hostW.map (Proc.devRef (τ := τ) .tc)).toFinset := by
  unfold hostOps
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.reshape_writes, Finset.singleton_subset_iff, List.mem_toFinset]
     exact List.mem_map_of_mem (by decide))

/-- A buffer no host operation and no call writes is as launched. -/
theorem W4_keep (d : Dev nD) (b : Ref sig .tc) (h23 : b ≠ main_v23) (hw : b ∉ hostW) (h1 : b ≠ main_v1) (h0 : b ≠ main_v0) :
    W4 m d (Proc.devRef .tc b) = m ((d.tc : Thread nD τ).loc b) := by
  have e4 : W4 m d (Proc.devRef .tc b) = W3 m d (Proc.devRef .tc b) := Vp_ne m d b h23
  have e3 : W3 m d (Proc.devRef .tc b) = W2 m d (Proc.devRef .tc b) := StableHlo.after_of_writes_sub hostOps _ hostOps_writes hw
  have e2 : W2 m d (Proc.devRef .tc b) = W1 m d (Proc.devRef .tc b) := Function.update_of_ne (StableHlo.devRef_ne_of_ne h1) _ _
  have e1 : W1 m d (Proc.devRef .tc b) = W0 m d (Proc.devRef .tc b) := StableHlo.reshape_result_ne' _ _ _ _ _ h0
  rw [e4, e3, e2, e1]
  rfl

/-- The flat indices are the rows of the index argument one after the other. -/
theorem Iv_eq (d : Dev nD) (p : Fin 65536) :
    Iv m d (ix1 p) = m ((d.tc : Thread nD τ).loc main_arg2) (ix2 (⟨p.val / 32, by omega⟩ : Fin 2048) (⟨p.val % 32, by omega⟩ : Fin 32)) := by
  have e : Iv m d = shapeCast S65536 (m ((d.tc : Thread nD τ).loc main_arg2)) shapeCasts_S2048x32_S65536 := by
    unfold Iv W1 op0
    rw [StableHlo.reshape_result']
    rfl
  rw [e]
  refine shapeCast_apply _ _ _ _ ?_
  rw [Shape.rowMajor_val_one]
  refine (Shape.rowMajor_val_two (d := ![2048, 32]) _).trans ?_
  show p.val / 32 * 32 + p.val % 32 = p.val
  omega

/-- Indices below 1024 in the argument are indices below 1024 in the flat list. -/
theorem hI_of (h : ∀ (d : Dev nD) i, (m ((d.tc : Thread nD τ).loc main_arg2) i : BitVec 32).toNat < 1024) : ∀ d p, wordI d (Iv m d) p < 1024 := by
  intro d p
  unfold wordI
  split
  · rw [Iv_eq]; exact h _ _
  · decide

/-- The whole program leaves the arguments as launched and every semaphore at zero, and its result is the layer's array. -/
theorem run_args [∀ e, Nonempty (Elt F e)] (ρ : Dev nD → PrngReg)
    (h : ∀ (d : Dev nD) i, (m ((d.tc : Thread nD τ).loc main_arg2) i : BitVec 32).toNat < 1024) :
    θ_run (defs (F := F)) (threads (F := F)) ⟨m, fun _ => 0, ρ⟩ fun r => ((∀ d : Dev nD, r.2.mem ((d.tc : Thread nD τ).loc main_v23) = outArr m d)
      ∧ ∀ d : Dev nD, ∀ b ∈ [main_arg0, main_arg1, main_arg2, main_arg3, main_arg4, main_arg5, main_arg6, main_arg7, main_arg8, main_arg9, main_arg10,
          main_arg11, main_arg12, main_arg13, main_arg14, main_arg15, main_arg16, main_arg17, main_arg18, main_arg19, main_arg20, main_arg21],
        r.2.mem ((d.tc : Thread nD τ).loc b) = m ((d.tc : Thread nD τ).loc b)) ∧ r.2.sem = fun _ => 0 := by
  refine (θ_run _ _ _).mono (fun r hr => ?_) (run_main m ρ (hI_of m h))
  obtain ⟨hm, hs⟩ := hr
  refine ⟨⟨fun d => ?_, fun d b hb => ?_⟩, hs⟩
  · exact (hm d (Proc.devRef .tc main_v23) (by decide)).trans (Vp_out m d)
  · have key : ∀ b ∈ [main_arg0, main_arg1, main_arg2, main_arg3, main_arg4, main_arg5, main_arg6, main_arg7, main_arg8, main_arg9, main_arg10,
          main_arg11, main_arg12, main_arg13, main_arg14, main_arg15, main_arg16, main_arg17, main_arg18, main_arg19, main_arg20, main_arg21],
        Proc.devRef (τ := τ) .tc b ∈ Pipeline.ucRefs τ sig ∧ b ≠ main_v23 ∧ b ∉ hostW ∧ b ≠ main_v1 ∧ b ≠ main_v0 := by decide
    obtain ⟨k0, k1, k2, k3, k4⟩ := key b hb
    exact (hm d _ k0).trans (W4_keep m d b k1 k2 k3 k4)

end Cert.Proof.Ki

end
-- ==== Proof.Value.Spec.lean ====
/-
  The layer on rows of extended reals: projections, normalisation, the two attentions (over all keys with multiplicities,
  over a list of keys), and the part after the attention.
-/
module

public import Idealize.ShloMosaic.PureOps.Ideal
public import Idealize.ShloMosaic.PureOps.Ideal.Laws
public import Idealize.ShloMosaic.Lib.Pointwise

@[expose] public section

noncomputable section

namespace Cert.Proof.Value

open Idealize.ShloMosaic

/-- A row times a matrix plus a row. -/
def proj {K N : ℕ} (x : Fin K → EReal) (w : Fin K → Fin N → EReal) (b : Fin N → EReal) (c : Fin N) : EReal :=
  (∑ k, x k * w k c) + b c

/-- The number 512. -/
def c512 : EReal := Ideal.ofBits .f32 0x44000000#32

/-- The normalisations' small addend. -/
def eps : EReal := Ideal.ofBits .f32 0x3727C5AC#32

/-- The mean of a row. -/
def mean (x : Fin 512 → EReal) : EReal := Ideal.div (∑ k, x k) c512

/-- A row less its mean. -/
def cen (x : Fin 512 → EReal) (c : Fin 512) : EReal := x c - mean x

/-- The mean square of the centred row, plus the small addend. -/
def spread (x : Fin 512 → EReal) : EReal := mean (fun k => cen x k * cen x k) + eps

/-- Normalisation by division by the root. -/
def ln (x g b : Fin 512 → EReal) (c : Fin 512) : EReal := Ideal.div (cen x c) (Ideal.sqrt (spread x)) * g c + b c

/-- Normalisation by multiplication with the reciprocal root. -/
def lnR (x g b : Fin 512 → EReal) (c : Fin 512) : EReal := cen x c * Ideal.rsqrt (spread x) * g c + b c

/-- What follows the attention, with the normalisation `L`: output projection, residual, normalisation, two-layer network,
    residual, normalisation. -/
def tailOf (L : (Fin 512 → EReal) → (Fin 512 → EReal) → (Fin 512 → EReal) → Fin 512 → EReal) (t att : Fin 512 → EReal) (wo : Fin 512 → Fin 512 → EReal) (bo : Fin 512 → EReal) (w1 : Fin 512 → Fin 2048 → EReal)
    (b1 : Fin 2048 → EReal) (w2 : Fin 2048 → Fin 512 → EReal) (b2 g1 e1 g2 e2 : Fin 512 → EReal) : Fin 512 → EReal :=
  let x := L (fun c => t c + proj att wo bo c) g1 e1
  L (fun c => x c + proj (fun j => max (proj x w1 b1 j) 0) w2 b2 c) g2 e2

/-- Column `d` of head `h`. -/
def col (h : Fin 8) (d : Fin 64) : Fin 512 := ⟨64 * h.val + d.val, by omega⟩

/-- The score of query row `q` against key row `k` in head `h`. -/
def score (q k : Fin 512 → EReal) (h : Fin 8) : EReal := ∑ d : Fin 64, q (col h d) * k (col h d)

/-- The greatest of finitely many extended reals. -/
def top {n : ℕ} (s : Fin n → EReal) : EReal := Finset.univ.fold max ⊥ s

/-- One head's output over all keys, each key counted `mu` times. -/
def headK (q : Fin 512 → EReal) (k v : Fin 1024 → Fin 512 → EReal) (mu : Fin 1024 → EReal) (h : Fin 8) (c : Fin 512) : EReal :=
  Ideal.div (∑ j, mu j * Ideal.exp (score q (k j) h - top fun i => score q (k i) h) * v j c)
    (∑ j, mu j * Ideal.exp (score q (k j) h - top fun i => score q (k i) h))

/-- The head a column belongs to. -/
def hd (c : Fin 512) : Fin 8 := ⟨c.val / 64, by omega⟩

/-- The batch's row `j` of a query row's batch. -/
def keyRow (n : Fin 2048) (j : Fin 1024) : Fin 8192 := ⟨1024 * (n.val / 256) + j.val, by omega⟩

/-- A vector by its position. -/
def vec {n : ℕ} (a : (⟨1, ![n]⟩ : Shape).Idx → EReal) (i : Fin n) : EReal := a (ix1 i)

/-- A matrix by row and column. -/
def mat {r c : ℕ} (a : (⟨2, ![r, c]⟩ : Shape).Idx → EReal) (i : Fin r) (j : Fin c) : EReal := a (ix2 i j)

/-- The attention over a list of 32 keys: the softmax of the scores over eight, in the column's head, applied to the values. -/
def attR (q : Fin 512 → EReal) (k v : Fin 32 → Fin 512 → EReal) (c : Fin 512) : EReal :=
  let s : Fin 32 → EReal := fun l => Ideal.div (score q (k l) (hd c)) (Ideal.ofBits .f32 0x41000000#32)
  ∑ l, Ideal.div (Ideal.exp (s l - top s)) (∑ i, Ideal.exp (s i - top s)) * v l c

/-- The whole layer at a row and a column: projections, attention over the keys that `K` lists, and what follows it. -/
def layer (a0 : (⟨2, ![2048, 512]⟩ : Shape).Idx → EReal) (a1 : (⟨2, ![8192, 512]⟩ : Shape).Idx → EReal) (K : Fin 2048 → Fin 32 → Fin 1024)
    (a6 : (⟨2, ![512, 512]⟩ : Shape).Idx → EReal) (a7 : (⟨1, ![512]⟩ : Shape).Idx → EReal) (a8 : (⟨2, ![512, 512]⟩ : Shape).Idx → EReal) (a9 : (⟨1, ![512]⟩ : Shape).Idx → EReal)
    (a10 : (⟨2, ![512, 512]⟩ : Shape).Idx → EReal) (a11 : (⟨1, ![512]⟩ : Shape).Idx → EReal) (a12 : (⟨2, ![512, 512]⟩ : Shape).Idx → EReal) (a13 : (⟨1, ![512]⟩ : Shape).Idx → EReal)
    (a14 : (⟨2, ![512, 2048]⟩ : Shape).Idx → EReal) (a15 : (⟨1, ![2048]⟩ : Shape).Idx → EReal) (a16 : (⟨2, ![2048, 512]⟩ : Shape).Idx → EReal)
    (a17 a18 a19 a20 a21 : (⟨1, ![512]⟩ : Shape).Idx → EReal) (n : Fin 2048) (e : Fin 512) : EReal :=
  tailOf ln (mat a0 n)
    (attR (proj (mat a0 n) (mat a6) (vec a7)) (fun l => proj (mat a1 (keyRow n (K n l))) (mat a8) (vec a9)) (fun l => proj (mat a1 (keyRow n (K n l))) (mat a10) (vec a11)))
    (mat a12) (vec a13) (mat a14) (vec a15) (mat a16) (vec a17) (vec a18) (vec a19) (vec a20) (vec a21) e

end Cert.Proof.Value

end
-- ==== Proof.Value.Block.lean ====
/-
  The layer call's body read entry by entry.
-/
module

public import proofs.«01_k».proof.Proof.Ki.Region
public import proofs.«01_k».proof.Proof.Value.Spec
public import Idealize.ShloMosaic.Lib.Pointwise

@[expose] public section

set_option maxRecDepth 16384

noncomputable section

namespace Cert.Proof.Value

open Cert.KernelIdeal Cert.KernelIdeal.Gen
open Idealize.ShloMosaic

/-- The pattern of minus infinity. -/
theorem ofBits_bot : Ideal.ofBits .f32 0xFF800000#32 = ⊥ := by
  simp [Ideal.ofBits, Ideal.ieee]

/-- The queries' projection at an entry. -/
theorem pay2_apply (x : FVec Ideal S256x512 .f32) (w : FVec Ideal S512x512 .bf16) (b : FVec Ideal S1x512 .f32) (r : Fin 256) (c : Fin 512) :
    k1_pay2 (F := Ideal) x w b (ix2 r c) = proj (fun e => x (ix2 r e)) (fun e c => w (ix2 e c)) (fun c => b (ix2 0 c)) c := by
  pointwise [k1_pay2]
  rfl

/-- The keys' and values' projection at an entry. -/
theorem pay3_apply (x : FVec Ideal S1024x512 .f32) (w : FVec Ideal S512x1024 .bf16) (b : FVec Ideal S1x1024 .f32) (r c : Fin 1024) :
    k1_pay3 (F := Ideal) x w b (ix2 r c) = proj (fun e => x (ix2 r e)) (fun e c => w (ix2 e c)) (fun c => b (ix2 0 c)) c := by
  pointwise [k1_pay3]
  rfl

/-- A column of the keys' half. -/
def lo (c : Fin 512) : Fin 1024 := ⟨c.val, by omega⟩

/-- A column of the values' half. -/
def hi (c : Fin 512) : Fin 1024 := ⟨512 + c.val, by omega⟩

theorem pay4_apply (x : FVec Ideal S1024x512 .f32) (w : FVec Ideal S512x1024 .bf16) (b : FVec Ideal S1x1024 .f32) (r : Fin 1024) (c : Fin 512) :
    k1_pay4 (F := Ideal) x w b (ix2 r c) = proj (fun e => x (ix2 r e)) (fun e c => w (ix2 e c)) (fun c => b (ix2 0 c)) (lo c) := by
  rw [← pay3_apply]
  pointwise [k1_pay4]
  exact congrArg (fun z => k1_pay3 (F := Ideal) x w b (ix2 r z)) (Fin.ext (by simp [lo]))

theorem pay5_apply (x : FVec Ideal S1024x512 .f32) (w : FVec Ideal S512x1024 .bf16) (b : FVec Ideal S1x1024 .f32) (r : Fin 1024) (c : Fin 512) :
    k1_pay5 (F := Ideal) x w b (ix2 r c) = proj (fun e => x (ix2 r e)) (fun e c => w (ix2 e c)) (fun c => b (ix2 0 c)) (hi c) := by
  rw [← pay3_apply]
  pointwise [k1_pay5]
  rfl

/-- Head 1's block, read at an entry. -/
theorem head1_apply (q : FVec Ideal S256x512 .f32) (k v : FVec Ideal S1024x512 .f32) (mu : FVec Ideal S256x1024 .f32) (r : Fin 256) (d : Fin 64) :
    k1_pay9 q k v mu (k1_pay7 (F := Ideal)) (ix2 r d)
      = headK (fun e => q (ix2 r e)) (fun j e => k (ix2 j e)) (fun j e => v (ix2 j e)) (fun j => mu (ix2 r j)) 1 (col 1 d) := by
  pointwise [k1_pay9, k1_pay7]
  simp only [ofBits_bot]
  rfl

/-- Head 2's block, read at an entry. -/
theorem head2_apply (q : FVec Ideal S256x512 .f32) (k v : FVec Ideal S1024x512 .f32) (mu : FVec Ideal S256x1024 .f32) (r : Fin 256) (d : Fin 64) :
    k1_pay10 q k v mu (k1_pay7 (F := Ideal)) (ix2 r d)
      = headK (fun e => q (ix2 r e)) (fun j e => k (ix2 j e)) (fun j e => v (ix2 j e)) (fun j => mu (ix2 r j)) 2 (col 2 d) := by
  pointwise [k1_pay10, k1_pay7]
  simp only [ofBits_bot]
  rfl

/-- Head 3's block, read at an entry. -/
theorem head3_apply (q : FVec Ideal S256x512 .f32) (k v : FVec Ideal S1024x512 .f32) (mu : FVec Ideal S256x1024 .f32) (r : Fin 256) (d : Fin 64) :
    k1_pay11 q k v mu (k1_pay7 (F := Ideal)) (ix2 r d)
      = headK (fun e => q (ix2 r e)) (fun j e => k (ix2 j e)) (fun j e => v (ix2 j e)) (fun j => mu (ix2 r j)) 3 (col 3 d) := by
  pointwise [k1_pay11, k1_pay7]
  simp only [ofBits_bot]
  rfl

/-- Head 5's block, read at an entry. -/
theorem head5_apply (q : FVec Ideal S256x512 .f32) (k v : FVec Ideal S1024x512 .f32) (mu : FVec Ideal S256x1024 .f32) (r : Fin 256) (d : Fin 64) :
    k1_pay15 q k v mu (k1_pay7 (F := Ideal)) (ix2 r d)
      = headK (fun e => q (ix2 r e)) (fun j e => k (ix2 j e)) (fun j e => v (ix2 j e)) (fun j => mu (ix2 r j)) 5 (col 5 d) := by
  pointwise [k1_pay15, k1_pay7]
  simp only [ofBits_bot]
  rfl

/-- Head 6's block, read at an entry. -/
theorem head6_apply (q : FVec Ideal S256x512 .f32) (k v : FVec Ideal S1024x512 .f32) (mu : FVec Ideal S256x1024 .f32) (r : Fin 256) (d : Fin 64) :
    k1_pay16 q k v mu (k1_pay7 (F := Ideal)) (ix2 r d)
      = headK (fun e => q (ix2 r e)) (fun j e => k (ix2 j e)) (fun j e => v (ix2 j e)) (fun j => mu (ix2 r j)) 6 (col 6 d) := by
  pointwise [k1_pay16, k1_pay7]
  simp only [ofBits_bot]
  rfl

/-- Head 4's block, read at an entry. -/
theorem head4_apply (q : FVec Ideal S256x512 .f32) (k v : FVec Ideal S1024x512 .f32) (mu : FVec Ideal S256x1024 .f32) (r : Fin 256) (d : Fin 64) :
    k1_pay14 v mu (k1_pay7 (F := Ideal)) (k1_pay12 q) (k1_pay13 k) (constant S256x1024 .f32 0x00000000#32) (ix2 r d)
      = headK (fun e => q (ix2 r e)) (fun j e => k (ix2 j e)) (fun j e => v (ix2 j e)) (fun j => mu (ix2 r j)) 4 (col 4 d) := by
  pointwise [k1_pay14, k1_pay12, k1_pay13, k1_pay7]
  simp only [ofBits_bot]
  rfl

/-- Head 0's block, read at an entry. -/
theorem head0_apply (x0 : FVec Ideal S256x512 .f32) (x1 : FVec Ideal S1024x512 .f32) (x3 : FVec Ideal S512x512 .bf16) (x4 : FVec Ideal S1x512 .f32)
    (x5 : FVec Ideal S512x1024 .bf16) (x6 : FVec Ideal S1x1024 .f32) (x2 : FVec Ideal S256x1024 .f32) (r : Fin 256) (d : Fin 64) :
    k1_pay8 (F := Ideal) x0 x1 x3 x4 x5 x6 x2 (ix2 r d)
      = headK (fun e => k1_pay2 (F := Ideal) x0 x3 x4 (ix2 r e)) (fun j e => k1_pay4 (F := Ideal) x1 x5 x6 (ix2 j e)) (fun j e => k1_pay5 (F := Ideal) x1 x5 x6 (ix2 j e))
          (fun j => k1_pay6 (F := Ideal) x2 (ix2 r j)) 0 (col 0 d) := by
  have hc : ∀ d : Fin 64, ∀ h, (⟨d.val, h⟩ : Fin 512) = col 0 d := fun d h => Fin.ext (by simp [col])
  generalize hq : k1_pay2 (F := Ideal) x0 x3 x4 = q
  generalize hk : k1_pay4 (F := Ideal) x1 x5 x6 = k
  generalize hv : k1_pay5 (F := Ideal) x1 x5 x6 = v
  generalize hm : k1_pay6 (F := Ideal) x2 = mu
  unfold k1_pay8
  rw [hq, hk, hv, hm]
  pointwise [k1_pay7]
  simp only [ofBits_bot, hc]
  rfl

/-- Head 7's block. -/
def head7 (q : FVec Ideal S256x512 .f32) (k v : FVec Ideal S1024x512 .f32) (mu : FVec Ideal S256x1024 .f32) : FVec Ideal S256x64 .f32 :=
  have v137 : FVec Ideal S256x1024 .f32 := k1_pay17 q k
  have v139 : FVec Ideal S256x1 .f32 := shapeCast S256x1 (k1_pay18 q k) shapeCasts_S256_S256x1
  have v140 : FVec Ideal S256x1024 .f32 := broadcastTo S256x1024 v139 broadcasts_S256x1_S256x1024
  have v141 : FVec Ideal S256x1024 .f32 := subf v137 v140
  have v142 : FVec Ideal S256x1024 .f32 := exp v141
  have v143 : FVec Ideal S256x1024 .f32 := mulf mu v142
  have v144 : FVec Ideal S1024x64 .f32 := extractStridedSlice S1024x64 ![0, 448] v slices_S1024x512_o0_448_S1024x64
  have v145 : FVec Ideal S1024x72 .f32 := concatenate S1024x72 1 [⟨S1024x64, v144⟩, ⟨S1024x8, k1_pay7 (F := Ideal)⟩] concatenates_S1024x64_S1024x8_S1024x72_d1
  have cst_38 : FVec Ideal S256x72 .f32 := constant S256x72 .f32 0x00000000#32
  have v146 : FVec Ideal S256x72 .f32 := matmul dot_S256x1024_S1024x72_S256x72_1_0_0_1_n_n none v143 v145 cst_38
  have v147 : FVec Ideal S256x64 .f32 := extractStridedSlice S256x64 ![0, 0] v146 slices_S256x72_o0_0_S256x64
  have v148 : FVec Ideal S256x1 .f32 := extractStridedSlice S256x1 ![0, 64] v146 slices_S256x72_o0_64_S256x1
  have v149 : FVec Ideal S256x64 .f32 := broadcastTo S256x64 v148 broadcasts_S256x1_S256x64
  divf v147 v149

/-- Head 7's block, read at an entry. -/
theorem head7_apply (q : FVec Ideal S256x512 .f32) (k v : FVec Ideal S1024x512 .f32) (mu : FVec Ideal S256x1024 .f32) (r : Fin 256) (d : Fin 64) :
    head7 q k v mu (ix2 r d)
      = headK (fun e => q (ix2 r e)) (fun j e => k (ix2 j e)) (fun j e => v (ix2 j e)) (fun j => mu (ix2 r j)) 7 (col 7 d) := by
  pointwise [head7, k1_pay17, k1_pay18, k1_pay7]
  simp only [ofBits_bot]
  rfl

/-- The eight heads side by side. -/
def cat8 (h0 h1 h2 h3 h4 h5 h6 h7 : FVec Ideal S256x64 .f32) : FVec Ideal S256x512 .f32 :=
  concatenate S256x512 1 [⟨S256x64, h0⟩, ⟨S256x64, h1⟩, ⟨S256x64, h2⟩, ⟨S256x64, h3⟩, ⟨S256x64, h4⟩, ⟨S256x64, h5⟩, ⟨S256x64, h6⟩, ⟨S256x64, h7⟩] concatenates_S256x64_S256x64_S256x64_S256x64_S256x64_S256x64_S256x64_S256x64_S256x512_d1

/-- If each head's block holds the columns of its head of a row function, the joined block holds the row. -/
theorem cat8_apply (h0 h1 h2 h3 h4 h5 h6 h7 : FVec Ideal S256x64 .f32) (r : Fin 256) (A : Fin 512 → EReal)
    (e0 : ∀ d, h0 (ix2 r d) = A (col 0 d)) (e1 : ∀ d, h1 (ix2 r d) = A (col 1 d)) (e2 : ∀ d, h2 (ix2 r d) = A (col 2 d)) (e3 : ∀ d, h3 (ix2 r d) = A (col 3 d))
    (e4 : ∀ d, h4 (ix2 r d) = A (col 4 d)) (e5 : ∀ d, h5 (ix2 r d) = A (col 5 d)) (e6 : ∀ d, h6 (ix2 r d) = A (col 6 d)) (e7 : ∀ d, h7 (ix2 r d) = A (col 7 d))
    (c : Fin 512) : cat8 h0 h1 h2 h3 h4 h5 h6 h7 (ix2 r c) = A c := by
  pointwise [cat8, e0, e1, e2, e3, e4, e5, e6, e7]
  have key : ∀ (h : Fin 8) (d : Fin 64), c.val = 64 * h.val + d.val → A (col h d) = A c := fun h d e => congrArg A (Fin.ext e.symm)
  have hc := c.isLt
  split_ifs <;> first
    | exact absurd rfl (by assumption)
    | exact key _ _ (by simp <;> omega)

/-- From the joined heads to the first normalisation's product with its gain. -/
def first (x0 : FVec Ideal S256x512 .f32) (att : FVec Ideal S256x512 .f32) (x7 : FVec Ideal S512x512 .bf16) (x8 x13 : FVec Ideal S1x512 .f32) : FVec Ideal S256x512 .f32 :=
  have v152 : FVec Ideal S256x512 .bf16 := truncf .bf16 att bitsLt_bf16_f32
  have v154 : FVec Ideal S512x512 .bf16 := shapeCast S512x512 x7 shapeCasts_S512x512_S512x512
  have cst_41 : FVec Ideal S256x512 .f32 := constant S256x512 .f32 0x00000000#32
  have v155 : FVec Ideal S256x512 .f32 := matmul dot_S256x512_S512x512_S256x512_1_0_0_1_n_n none v152 v154 cst_41
  have v157 : FVec Ideal S1x512 .f32 := shapeCast S1x512 x8 shapeCasts_S1x512_S1x512
  have v158 : FVec Ideal S256x512 .f32 := broadcastTo S256x512 v157 broadcasts_S1x512_S256x512
  have v159 : FVec Ideal S256x512 .f32 := addf v155 v158
  have v160 : FVec Ideal S256x512 .f32 := addf x0 v159
  have v162 : FVec Ideal S1x512 .f32 := shapeCast S1x512 x13 shapeCasts_S1x512_S1x512
  have v165 : FVec Ideal S256 .f32 := multiReduction .add [1] S256 v160 0x00000000#32 reduces_S256x512_S256 (.inl rfl) rfl
  have v166 : FVec Ideal S256x1 .f32 := shapeCast S256x1 v165 shapeCasts_S256_S256x1
  have cst_49 : Ideal .f32 := Scalar.ofBits .f32 0x44000000#32
  have v167 : FVec Ideal S256x1 .f32 := broadcast S256x1 cst_49
  have v168 : FVec Ideal S256x1 .f32 := divf v166 v167
  have v169 : FVec Ideal S256x512 .f32 := broadcastTo S256x512 v168 broadcasts_S256x1_S256x512
  have v170 : FVec Ideal S256x512 .f32 := subf v160 v169
  have v171 : FVec Ideal S256x512 .f32 := mulf v170 v170
  have v172 : FVec Ideal S256 .f32 := multiReduction .add [1] S256 v171 0x00000000#32 reduces_S256x512_S256 (.inl rfl) rfl
  have v173 : FVec Ideal S256x1 .f32 := shapeCast S256x1 v172 shapeCasts_S256_S256x1
  have cst_51 : Ideal .f32 := Scalar.ofBits .f32 0x44000000#32
  have v174 : FVec Ideal S256x1 .f32 := broadcast S256x1 cst_51
  have v175 : FVec Ideal S256x1 .f32 := divf v173 v174
  have cst_52 : Ideal .f32 := Scalar.ofBits .f32 0x3727C5AC#32
  have v176 : FVec Ideal S256x1 .f32 := broadcast S256x1 cst_52
  have v177 : FVec Ideal S256x1 .f32 := addf v175 v176
  have v178 : FVec Ideal S256x1 .f32 := rsqrt v177
  have v179 : FVec Ideal S256x512 .f32 := broadcastTo S256x512 v178 broadcasts_S256x1_S256x512
  have v180 : FVec Ideal S256x512 .f32 := mulf v170 v179
  have v181 : FVec Ideal S256x512 .f32 := broadcastTo S256x512 v162 broadcasts_S1x512_S256x512
  have v182 : FVec Ideal S256x512 .f32 := mulf v180 v181
  v182

/-- It is what the body's payload computes from the heads. -/
theorem pay19_eq (x0 : FVec Ideal S256x512 .f32) (q : FVec Ideal S256x512 .f32) (k v : FVec Ideal S1024x512 .f32) (mu : FVec Ideal S256x1024 .f32)
    (h0 h1 h2 h3 h4 h5 h6 : FVec Ideal S256x64 .f32) (x7 : FVec Ideal S512x512 .bf16) (x8 x13 : FVec Ideal S1x512 .f32) :
    k1_pay19 x0 v mu (k1_pay7 (F := Ideal)) h0 h1 h2 h3 h4 h5 h6 (k1_pay17 q k) (k1_pay18 q k) x7 x8 x13
      = first x0 (cat8 h0 h1 h2 h3 h4 h5 h6 (head7 q k v mu)) x7 x8 x13 := rfl

/-- The residual sum, centred, over the root, times the gain. -/
theorem first_apply (x0 att : FVec Ideal S256x512 .f32) (x7 : FVec Ideal S512x512 .bf16) (x8 x13 : FVec Ideal S1x512 .f32) (r : Fin 256) (c : Fin 512) :
    first x0 att x7 x8 x13 (ix2 r c)
      = (fun X => cen X c * Ideal.rsqrt (spread X)) (fun c => x0 (ix2 r c) + proj (fun e => att (ix2 r e)) (fun e c => x7 (ix2 e c)) (fun c => x8 (ix2 0 c)) c) * x13 (ix2 0 c) := by
  pointwise [first]
  rfl

/-- The network on the normalised row, the residual, centred, over the root. -/
theorem pay23_apply (y z : FVec Ideal S256x512 .f32) (x9 : FVec Ideal S512x2048 .bf16) (x10 : FVec Ideal S1x2048 .f32) (x11 : FVec Ideal S2048x512 .bf16) (x12 : FVec Ideal S1x512 .f32)
    (r : Fin 256) (c : Fin 512) :
    k1_pay23 y z x9 x10 x11 x12 (ix2 r c)
      = (fun X => cen X c * Ideal.rsqrt (spread X)) (fun c => (y (ix2 r c) + z (ix2 r c))
          + proj (fun j => max (proj (fun e => y (ix2 r e) + z (ix2 r e)) (fun e j => x9 (ix2 e j)) (fun j => x10 (ix2 0 j)) j) 0) (fun j c => x11 (ix2 j c)) (fun c => x12 (ix2 0 c)) c) := by
  pointwise [k1_pay23]
  rfl

theorem pay6_apply (x : FVec Ideal S256x1024 .f32) (r : Fin 256) (j : Fin 1024) : k1_pay6 (F := Ideal) x (ix2 r j) = x (ix2 r j) := by
  pointwise [k1_pay6]

theorem pay20_apply (x : FVec Ideal S1x512 .f32) (r : Fin 256) (j : Fin 512) : k1_pay20 (F := Ideal) x (ix2 r j) = x (ix2 0 j) := by
  pointwise [k1_pay20]

theorem pay1_apply (a b : FVec Ideal S1x512 .f32) (y : FVec Ideal S256x512 .f32) (r : Fin 256) (j : Fin 512) :
    k1_pay1 (F := Ideal) (k1_pay21 a) (k1_pay22 b) y (ix2 r j) = y (ix2 r j) * a (ix2 0 j) + b (ix2 0 j) := by
  pointwise [k1_pay1, k1_pay21, k1_pay22]

/-- The attention of one query row over all keys, each counted `mu` times. -/
def attK (q : Fin 512 → EReal) (k v : Fin 1024 → Fin 512 → EReal) (mu : Fin 1024 → EReal) (c : Fin 512) : EReal := headK q k v mu (hd c) c

theorem attK_col (q : Fin 512 → EReal) (k v : Fin 1024 → Fin 512 → EReal) (mu : Fin 1024 → EReal) (h : Fin 8) (d : Fin 64) :
    attK q k v mu (col h d) = headK q k v mu h (col h d) := by
  unfold attK
  have e : hd (col h d) = h := Fin.ext (by simp only [hd, col]; omega)
  rw [e]

/-- The body's result at an entry. -/
theorem tcOut_apply (x0 : FVec Ideal S256x512 .f32) (x1 : FVec Ideal S1024x512 .f32) (x2 : FVec Ideal S256x1024 .f32) (x3 : FVec Ideal S512x512 .bf16) (x4 : FVec Ideal S1x512 .f32) (x5 : FVec Ideal S512x1024 .bf16) (x6 : FVec Ideal S1x1024 .f32) (x7 : FVec Ideal S512x512 .bf16) (x8 : FVec Ideal S1x512 .f32) (x9 : FVec Ideal S512x2048 .bf16) (x10 : FVec Ideal S1x2048 .f32) (x11 : FVec Ideal S2048x512 .bf16) (x12 x13 x14 x15 x16 : FVec Ideal S1x512 .f32)
    (r : Fin 256) (c : Fin 512) :
    Ki.tcOut (F := Ideal) x0 x1 x2 x3 x4 x5 x6 x7 x8 x9 x10 x11 x12 x13 x14 x15 x16 (ix2 r c)
      = tailOf lnR (fun e => x0 (ix2 r e))
          (attK (proj (fun e => x0 (ix2 r e)) (fun e c => x3 (ix2 e c)) (fun c => x4 (ix2 0 c)))
            (fun j e => proj (fun e => x1 (ix2 j e)) (fun e c => x5 (ix2 e c)) (fun c => x6 (ix2 0 c)) (lo e))
            (fun j e => proj (fun e => x1 (ix2 j e)) (fun e c => x5 (ix2 e c)) (fun c => x6 (ix2 0 c)) (hi e))
            (fun j => x2 (ix2 r j)))
          (fun e c => x7 (ix2 e c)) (fun c => x8 (ix2 0 c)) (fun e c => x9 (ix2 e c)) (fun c => x10 (ix2 0 c)) (fun e c => x11 (ix2 e c)) (fun c => x12 (ix2 0 c))
          (fun c => x13 (ix2 0 c)) (fun c => x14 (ix2 0 c)) (fun c => x15 (ix2 0 c)) (fun c => x16 (ix2 0 c)) c := by
  have hN : ∀ c : Fin 512, Ki.attnN (F := Ideal) x0 (k1_pay2 x0 x3 x4) (k1_pay4 x1 x5 x6) (k1_pay5 x1 x5 x6) (k1_pay6 x2) (k1_pay7 (F := Ideal)) (k1_pay8 x0 x1 x3 x4 x5 x6 x2) x7 x8 x13 (ix2 r c)
      = (fun X => cen X c * Ideal.rsqrt (spread X)) (fun c => x0 (ix2 r c) + proj (attK (proj (fun e => x0 (ix2 r e)) (fun e c => x3 (ix2 e c)) (fun c => x4 (ix2 0 c)))
            (fun j e => proj (fun e => x1 (ix2 j e)) (fun e c => x5 (ix2 e c)) (fun c => x6 (ix2 0 c)) (lo e))
            (fun j e => proj (fun e => x1 (ix2 j e)) (fun e c => x5 (ix2 e c)) (fun c => x6 (ix2 0 c)) (hi e))
            (fun j => x2 (ix2 r j))) (fun e c => x7 (ix2 e c)) (fun c => x8 (ix2 0 c)) c) * x13 (ix2 0 c) := by
    intro c
    unfold Ki.attnN
    rw [pay19_eq, first_apply]
    have e : (fun e => cat8 (k1_pay8 x0 x1 x3 x4 x5 x6 x2) (k1_pay9 (k1_pay2 x0 x3 x4) (k1_pay4 x1 x5 x6) (k1_pay5 x1 x5 x6) (k1_pay6 x2) (k1_pay7 (F := Ideal)))
        (k1_pay10 (k1_pay2 x0 x3 x4) (k1_pay4 x1 x5 x6) (k1_pay5 x1 x5 x6) (k1_pay6 x2) (k1_pay7 (F := Ideal)))
        (k1_pay11 (k1_pay2 x0 x3 x4) (k1_pay4 x1 x5 x6) (k1_pay5 x1 x5 x6) (k1_pay6 x2) (k1_pay7 (F := Ideal)))
        (k1_pay14 (k1_pay5 x1 x5 x6) (k1_pay6 x2) (k1_pay7 (F := Ideal)) (k1_pay12 (k1_pay2 x0 x3 x4)) (k1_pay13 (k1_pay4 x1 x5 x6)) (constant S256x1024 .f32 0x00000000#32))
        (k1_pay15 (k1_pay2 x0 x3 x4) (k1_pay4 x1 x5 x6) (k1_pay5 x1 x5 x6) (k1_pay6 x2) (k1_pay7 (F := Ideal)))
        (k1_pay16 (k1_pay2 x0 x3 x4) (k1_pay4 x1 x5 x6) (k1_pay5 x1 x5 x6) (k1_pay6 x2) (k1_pay7 (F := Ideal)))
        (head7 (k1_pay2 x0 x3 x4) (k1_pay4 x1 x5 x6) (k1_pay5 x1 x5 x6) (k1_pay6 x2)) (ix2 r e))
        = attK (proj (fun e => x0 (ix2 r e)) (fun e c => x3 (ix2 e c)) (fun c => x4 (ix2 0 c)))
            (fun j e => proj (fun e => x1 (ix2 j e)) (fun e c => x5 (ix2 e c)) (fun c => x6 (ix2 0 c)) (lo e))
            (fun j e => proj (fun e => x1 (ix2 j e)) (fun e c => x5 (ix2 e c)) (fun c => x6 (ix2 0 c)) (hi e))
            (fun j => x2 (ix2 r j)) := by
      funext e
      refine cat8_apply _ _ _ _ _ _ _ _ r _ ?_ ?_ ?_ ?_ ?_ ?_ ?_ ?_ e <;> intro d <;> rw [attK_col]
      · rw [head0_apply]; simp only [pay2_apply, pay4_apply, pay5_apply, pay6_apply]
      · rw [head1_apply]; simp only [pay2_apply, pay4_apply, pay5_apply, pay6_apply]
      · rw [head2_apply]; simp only [pay2_apply, pay4_apply, pay5_apply, pay6_apply]
      · rw [head3_apply]; simp only [pay2_apply, pay4_apply, pay5_apply, pay6_apply]
      · rw [head4_apply]; simp only [pay2_apply, pay4_apply, pay5_apply, pay6_apply]
      · rw [head5_apply]; simp only [pay2_apply, pay4_apply, pay5_apply, pay6_apply]
      · rw [head6_apply]; simp only [pay2_apply, pay4_apply, pay5_apply, pay6_apply]
      · rw [head7_apply]; simp only [pay2_apply, pay4_apply, pay5_apply, pay6_apply]
    rw [e]
  unfold Ki.tcOut
  rw [pay1_apply, pay23_apply]
  simp only [hN, pay20_apply]
  rfl

end Cert.Proof.Value

end
-- ==== Proof.Value.Array.lean ====
/-
  The layer call's result array, entry by entry, from the contents of its operands.
-/
module

public import proofs.«01_k».proof.Proof.Ki.Main
public import proofs.«01_k».proof.Proof.Value.Block
public import Idealize.ShloMosaic.Lib.Pipeline.ValueKit

@[expose] public section

set_option maxRecDepth 16384

noncomputable section

namespace Cert.Proof.Value

open Cert.KernelIdeal Cert.KernelIdeal.Gen
open Idealize.ShloMosaic Idealize.ShloMosaic.TcCoe Idealize.ShloMosaic.Pipeline

variable (V : (c : Dev nD) → (b : Ref sig .tc) → Buf (Elt Ideal) ((c : Thread nD τ).loc b))

/-- The layer's result at row `n`, column `c`, from the operands. -/
def layerK (c : Dev nD) (n : Fin 2048) (e : Fin 512) : EReal :=
  tailOf lnR (fun e => V c main_arg0 (ix2 n e))
    (attK (proj (fun e => V c main_arg0 (ix2 n e)) (fun e o => V c main_v8 (ix2 e o)) (fun o => V c main_v11 (ix2 0 o)))
      (fun j e => proj (fun e => V c main_arg1 (ix2 (keyRow n j) e)) (fun e o => V c main_v12 (ix2 e o)) (fun o => V c main_v5 (ix2 0 o)) (lo e))
      (fun j e => proj (fun e => V c main_arg1 (ix2 (keyRow n j) e)) (fun e o => V c main_v12 (ix2 e o)) (fun o => V c main_v5 (ix2 0 o)) (hi e))
      (fun j => V c main_v2 (ix2 n j)))
    (fun e o => V c main_v13 (ix2 e o)) (fun o => V c main_v14 (ix2 0 o)) (fun e o => V c main_v15 (ix2 e o)) (fun o => V c main_v16 (ix2 0 o))
    (fun e o => V c main_v17 (ix2 e o)) (fun o => V c main_v18 (ix2 0 o)) (fun o => V c main_v19 (ix2 0 o)) (fun o => V c main_v20 (ix2 0 o))
    (fun o => V c main_v21 (ix2 0 o)) (fun o => V c main_v22 (ix2 0 o)) e

/-- The batch a grid point works on. -/
def bat (t : Fin cfg1.N) : Fin 8 := ⟨t.val, t.isLt⟩

/-- Row `r` of point `t`'s block of queries. -/
def qRow (t : Fin cfg1.N) (r : Fin 256) : Fin 2048 := ⟨256 * (bat t).val + r.val, by have := (bat t).isLt; omega⟩

/-- Where the windows' blocks stand. -/
theorem idx_moving : ∀ t : Fin cfg1.N, (win1_0.index t 0 = t.val ∧ win1_0.index t 1 = 0) ∧ (win1_1.index t 0 = t.val ∧ win1_1.index t 1 = 0)
    ∧ (win1_2.index t 0 = t.val ∧ win1_2.index t 1 = 0) ∧ (win1_17.index t 0 = t.val ∧ win1_17.index t 1 = 0) := by decide +kernel

theorem idx3 : ∀ t : Fin cfg1.N, win1_3.index t 0 = 0 ∧ win1_3.index t 1 = 0 := by decide +kernel
theorem idx4 : ∀ t : Fin cfg1.N, win1_4.index t 0 = 0 ∧ win1_4.index t 1 = 0 := by decide +kernel
theorem idx5 : ∀ t : Fin cfg1.N, win1_5.index t 0 = 0 ∧ win1_5.index t 1 = 0 := by decide +kernel
theorem idx6 : ∀ t : Fin cfg1.N, win1_6.index t 0 = 0 ∧ win1_6.index t 1 = 0 := by decide +kernel
theorem idx7 : ∀ t : Fin cfg1.N, win1_7.index t 0 = 0 ∧ win1_7.index t 1 = 0 := by decide +kernel
theorem idx8 : ∀ t : Fin cfg1.N, win1_8.index t 0 = 0 ∧ win1_8.index t 1 = 0 := by decide +kernel
theorem idx9 : ∀ t : Fin cfg1.N, win1_9.index t 0 = 0 ∧ win1_9.index t 1 = 0 := by decide +kernel
theorem idx10 : ∀ t : Fin cfg1.N, win1_10.index t 0 = 0 ∧ win1_10.index t 1 = 0 := by decide +kernel
theorem idx11 : ∀ t : Fin cfg1.N, win1_11.index t 0 = 0 ∧ win1_11.index t 1 = 0 := by decide +kernel
theorem idx12 : ∀ t : Fin cfg1.N, win1_12.index t 0 = 0 ∧ win1_12.index t 1 = 0 := by decide +kernel
theorem idx13 : ∀ t : Fin cfg1.N, win1_13.index t 0 = 0 ∧ win1_13.index t 1 = 0 := by decide +kernel
theorem idx14 : ∀ t : Fin cfg1.N, win1_14.index t 0 = 0 ∧ win1_14.index t 1 = 0 := by decide +kernel
theorem idx15 : ∀ t : Fin cfg1.N, win1_15.index t 0 = 0 ∧ win1_15.index t 1 = 0 := by decide +kernel
theorem idx16 : ∀ t : Fin cfg1.N, win1_16.index t 0 = 0 ∧ win1_16.index t 1 = 0 := by decide +kernel

theorem blk0 (c : Dev nD) (t : Fin cfg1.N) (r : Fin 256) (e : Fin 512) : Ki.iblk V c 0 t (ix2 r e) = V c main_arg0 (ix2 (qRow t r) e) := by
  blk_ext [Ki.iblk, (idx_moving t).1.1, (idx_moving t).1.2, (idx_moving t).2.1.1, (idx_moving t).2.1.2, (idx_moving t).2.2.1.1, (idx_moving t).2.2.1.2, (idx_moving t).2.2.2.1, (idx_moving t).2.2.2.2, qRow, bat]

theorem blk1 (c : Dev nD) (t : Fin cfg1.N) (r : Fin 256) (j : Fin 1024) (e : Fin 512) : Ki.iblk V c 1 t (ix2 j e) = V c main_arg1 (ix2 (keyRow (qRow t r) j) e) := by
  blk_ext [Ki.iblk, (idx_moving t).1.1, (idx_moving t).1.2, (idx_moving t).2.1.1, (idx_moving t).2.1.2, (idx_moving t).2.2.1.1, (idx_moving t).2.2.1.2, (idx_moving t).2.2.2.1, (idx_moving t).2.2.2.2, qRow, bat, keyRow]

theorem blk2 (c : Dev nD) (t : Fin cfg1.N) (r : Fin 256) (j : Fin 1024) : Ki.iblk V c 2 t (ix2 r j) = V c main_v2 (ix2 (qRow t r) j) := by
  blk_ext [Ki.iblk, (idx_moving t).1.1, (idx_moving t).1.2, (idx_moving t).2.1.1, (idx_moving t).2.1.2, (idx_moving t).2.2.1.1, (idx_moving t).2.2.1.2, (idx_moving t).2.2.2.1, (idx_moving t).2.2.2.2, qRow, bat]

theorem blk3 (c : Dev nD) (t : Fin cfg1.N) (a : Fin 512) (b : Fin 512) : Ki.iblk V c 3 t (ix2 a b) = V c main_v8 (ix2 a b) := by
  blk_ext [Ki.iblk, (idx3 t).1, (idx3 t).2]

theorem blk4 (c : Dev nD) (t : Fin cfg1.N) (a : Fin 1) (b : Fin 512) : Ki.iblk V c 4 t (ix2 a b) = V c main_v11 (ix2 a b) := by
  blk_ext [Ki.iblk, (idx4 t).1, (idx4 t).2]

theorem blk5 (c : Dev nD) (t : Fin cfg1.N) (a : Fin 512) (b : Fin 1024) : Ki.iblk V c 5 t (ix2 a b) = V c main_v12 (ix2 a b) := by
  blk_ext [Ki.iblk, (idx5 t).1, (idx5 t).2]

theorem blk6 (c : Dev nD) (t : Fin cfg1.N) (a : Fin 1) (b : Fin 1024) : Ki.iblk V c 6 t (ix2 a b) = V c main_v5 (ix2 a b) := by
  blk_ext [Ki.iblk, (idx6 t).1, (idx6 t).2]

theorem blk7 (c : Dev nD) (t : Fin cfg1.N) (a : Fin 512) (b : Fin 512) : Ki.iblk V c 7 t (ix2 a b) = V c main_v13 (ix2 a b) := by
  blk_ext [Ki.iblk, (idx7 t).1, (idx7 t).2]

theorem blk8 (c : Dev nD) (t : Fin cfg1.N) (a : Fin 1) (b : Fin 512) : Ki.iblk V c 8 t (ix2 a b) = V c main_v14 (ix2 a b) := by
  blk_ext [Ki.iblk, (idx8 t).1, (idx8 t).2]

theorem blk9 (c : Dev nD) (t : Fin cfg1.N) (a : Fin 512) (b : Fin 2048) : Ki.iblk V c 9 t (ix2 a b) = V c main_v15 (ix2 a b) := by
  blk_ext [Ki.iblk, (idx9 t).1, (idx9 t).2]

theorem blk10 (c : Dev nD) (t : Fin cfg1.N) (a : Fin 1) (b : Fin 2048) : Ki.iblk V c 10 t (ix2 a b) = V c main_v16 (ix2 a b) := by
  blk_ext [Ki.iblk, (idx10 t).1, (idx10 t).2]

theorem blk11 (c : Dev nD) (t : Fin cfg1.N) (a : Fin 2048) (b : Fin 512) : Ki.iblk V c 11 t (ix2 a b) = V c main_v17 (ix2 a b) := by
  blk_ext [Ki.iblk, (idx11 t).1, (idx11 t).2]

theorem blk12 (c : Dev nD) (t : Fin cfg1.N) (a : Fin 1) (b : Fin 512) : Ki.iblk V c 12 t (ix2 a b) = V c main_v18 (ix2 a b) := by
  blk_ext [Ki.iblk, (idx12 t).1, (idx12 t).2]

theorem blk13 (c : Dev nD) (t : Fin cfg1.N) (a : Fin 1) (b : Fin 512) : Ki.iblk V c 13 t (ix2 a b) = V c main_v19 (ix2 a b) := by
  blk_ext [Ki.iblk, (idx13 t).1, (idx13 t).2]

theorem blk14 (c : Dev nD) (t : Fin cfg1.N) (a : Fin 1) (b : Fin 512) : Ki.iblk V c 14 t (ix2 a b) = V c main_v20 (ix2 a b) := by
  blk_ext [Ki.iblk, (idx14 t).1, (idx14 t).2]

theorem blk15 (c : Dev nD) (t : Fin cfg1.N) (a : Fin 1) (b : Fin 512) : Ki.iblk V c 15 t (ix2 a b) = V c main_v21 (ix2 a b) := by
  blk_ext [Ki.iblk, (idx15 t).1, (idx15 t).2]

theorem blk16 (c : Dev nD) (t : Fin cfg1.N) (a : Fin 1) (b : Fin 512) : Ki.iblk V c 16 t (ix2 a b) = V c main_v22 (ix2 a b) := by
  blk_ext [Ki.iblk, (idx16 t).1, (idx16 t).2]

/-- The result array after the call. -/
theorem arr_eq (c : Dev nD) : (Ki.dat V c).arrAt 17 cfg1.N = fun i => layerK V c (i 0) (i 1) := by
  refine (Ki.dat V c).arrAt_eq_of_covers 17 _ (by decide +kernel) fun t hf y => ?_
  blk_simp
  rw [Ki.after1_17]
  unfold Ki.out1_17
  frame_out
  obtain ⟨r, e, rfl⟩ : ∃ (r : Fin 256) (e : Fin 512), y = ix2 r e := ⟨y 0, y 1, eq_ix2 y⟩
  have e0 : ((View.whole main_v23).slice (win1_17.rect t)).emb (ix2 r e) = ix2 (qRow t r) e := by blk_ext [(idx_moving t).1.1, (idx_moving t).1.2, (idx_moving t).2.1.1, (idx_moving t).2.1.2, (idx_moving t).2.2.1.1, (idx_moving t).2.2.1.2, (idx_moving t).2.2.2.1, (idx_moving t).2.2.2.2, qRow, bat]
  rw [e0]
  show _ = layerK V c (qRow t r) e
  refine (tcOut_apply _ _ _ _ _ _ _ _ _ _ _ _ _ _ _ _ _ r e).trans ?_
  unfold layerK
  simp only [blk0, blk1 V c t r, blk2, blk3, blk4, blk5, blk6, blk7, blk8, blk9, blk10, blk11, blk12, blk13, blk14, blk15, blk16]

end Cert.Proof.Value

end
-- ==== Proof.Value.Host.lean ====
/-
  The layer call's operands, entry by entry, from the arguments.
-/
module

public import proofs.«01_k».proof.Proof.Ki.Frame
public import proofs.«01_k».proof.Proof.Value.Array
public import Idealize.ShloMosaic.Lib.Pointwise
public import Idealize.ShloMosaic.Lib.Pointwise.IndexBridge

@[expose] public section

set_option maxRecDepth 16384

noncomputable section

namespace Cert.Proof.Value

open Cert.KernelIdeal Cert.KernelIdeal.Gen
open Idealize.ShloMosaic Idealize.ShloMosaic.TcCoe Idealize.ShloMosaic.Tactic

variable (m : (ℓ : Loc nD τ sig) → Buf (Elt Ideal) ℓ) (d : Dev nD)

/-- A buffer that neither the counting call nor the operations before it write is as launched. -/
theorem W2_keep (b : Ref sig .tc) (h1 : b ≠ main_v1) (h0 : b ≠ main_v0) : Ki.W2 m d (Proc.devRef .tc b) = m ((d.tc : Thread nD τ).loc b) :=
  (Function.update_of_ne (StableHlo.devRef_ne_of_ne h1) _ _).trans (StableHlo.reshape_result_ne' _ _ _ _ _ h0)

/-- A buffer that nothing before the layer writes is as launched. -/
theorem Vr_keep (b : Ref sig .tc) (hw : b ∉ Ki.hostW) (h1 : b ≠ main_v1) (h0 : b ≠ main_v0) : Ki.Vr m d b = m ((d.tc : Thread nD τ).loc b) :=
  (StableHlo.after_of_writes_sub Ki.hostOps _ Ki.hostOps_writes hw).trans (W2_keep m d b h1 h0)

/-- The factor folded into the queries' projection. -/
def eighth : EReal := Ideal.ofBits .f32 0x3E000000#32

/-- A joined matrix by the two parts. -/
theorem cat2_congr {x x' y y' : (⟨S512x512, .f32⟩ : BufTy).Contents (Elt Ideal)} (hx : x = x') (hy : y = y') :
    concatenate S512x1024 1 [⟨S512x512, x⟩, ⟨S512x512, y⟩] concatenates_S512x512_S512x512_S512x1024_d1
      = concatenate S512x1024 1 [⟨S512x512, x'⟩, ⟨S512x512, y'⟩] concatenates_S512x512_S512x512_S512x1024_d1 := by rw [hx, hy]

/-- A joined vector by the two parts. -/
theorem cat1_congr {x x' y y' : (⟨S512, .f32⟩ : BufTy).Contents (Elt Ideal)} (hx : x = x') (hy : y = y') :
    concatenate S1024 0 [⟨S512, x⟩, ⟨S512, y⟩] concatenates_S512_S512_S1024_d0
      = concatenate S1024 0 [⟨S512, x'⟩, ⟨S512, y'⟩] concatenates_S512_S512_S1024_d0 := by rw [hx, hy]

/-- The query projection's matrix, scaled. -/
theorem Vr_v8 (e o : Fin 512) : Ki.Vr m d main_v8 (ix2 e o) = mat (m ((d.tc : Thread nD τ).loc main_arg6)) e o * eighth := by
  have h : Ki.Vr m d main_v8 = truncf (F := Ideal) .bf16 (mulf (m ((d.tc : Thread nD τ).loc main_arg6)) (broadcastInDim S512x512 ![] bcast_S_S512x512 (constant (F := Ideal) S_ .f32 0x3E000000#32))) bitsLt_bf16_f32 := by
    unfold Ki.Vr Ki.W3 Ki.hostOps
    after_results_simp
    rw [W2_keep m d main_arg6 (by decide) (by decide)]
  rw [h]
  pointwise
  rfl

/-- The query projection's row, scaled. -/
theorem Vr_v11 (o : Fin 512) : Ki.Vr m d main_v11 (ix2 0 o) = vec (m ((d.tc : Thread nD τ).loc main_arg7)) o * eighth := by
  have h : Ki.Vr m d main_v11 = mulf (shapeCast S1x512 (m ((d.tc : Thread nD τ).loc main_arg7)) shapeCasts_S512_S1x512) (broadcastInDim S1x512 ![] bcast_S_S1x512 (constant (F := Ideal) S_ .f32 0x3E000000#32)) := by
    unfold Ki.Vr Ki.W3 Ki.hostOps
    after_results_simp
    rw [W2_keep m d main_arg7 (by decide) (by decide)]
    rfl
  rw [h]
  pointwise
  rfl

/-- The joint projection's key half. -/
theorem Vr_v12_lo (e o : Fin 512) : Ki.Vr m d main_v12 (ix2 e (lo o)) = mat (m ((d.tc : Thread nD τ).loc main_arg8)) e o := by
  have h : Ki.Vr m d main_v12 = truncf (F := Ideal) .bf16 (concatenate S512x1024 1 [⟨S512x512, (m ((d.tc : Thread nD τ).loc main_arg8))⟩, ⟨S512x512, (m ((d.tc : Thread nD τ).loc main_arg10))⟩] concatenates_S512x512_S512x512_S512x1024_d1) bitsLt_bf16_f32 := by
    unfold Ki.Vr Ki.W3 Ki.hostOps
    after_results_simp
    refine congrArg (fun z => truncf (F := Ideal) .bf16 z bitsLt_bf16_f32) (cat2_congr ?_ ?_)
    · after_results_simp
      exact W2_keep m d main_arg8 (by decide) (by decide)
    · after_results_simp
      exact W2_keep m d main_arg10 (by decide) (by decide)
  rw [h]
  pointwise
  exact dif_pos o.isLt

/-- The joint projection's value half. -/
theorem Vr_v12_hi (e o : Fin 512) : Ki.Vr m d main_v12 (ix2 e (hi o)) = mat (m ((d.tc : Thread nD τ).loc main_arg10)) e o := by
  have h : Ki.Vr m d main_v12 = truncf (F := Ideal) .bf16 (concatenate S512x1024 1 [⟨S512x512, (m ((d.tc : Thread nD τ).loc main_arg8))⟩, ⟨S512x512, (m ((d.tc : Thread nD τ).loc main_arg10))⟩] concatenates_S512x512_S512x512_S512x1024_d1) bitsLt_bf16_f32 := by
    unfold Ki.Vr Ki.W3 Ki.hostOps
    after_results_simp
    refine congrArg (fun z => truncf (F := Ideal) .bf16 z bitsLt_bf16_f32) (cat2_congr ?_ ?_)
    · after_results_simp
      exact W2_keep m d main_arg8 (by decide) (by decide)
    · after_results_simp
      exact W2_keep m d main_arg10 (by decide) (by decide)
  rw [h]
  pointwise
  exact (dif_neg (by simp [hi])).trans (congrArg (fun x : Fin 512 => (m ((d.tc : Thread nD τ).loc main_arg10)) (ix2 e x)) (Fin.ext (by simp [hi])))

/-- The joint projection's row, key half. -/
theorem Vr_v5_lo (o : Fin 512) : Ki.Vr m d main_v5 (ix2 0 (lo o)) = vec (m ((d.tc : Thread nD τ).loc main_arg9)) o := by
  have h : Ki.Vr m d main_v5 = shapeCast S1x1024 (concatenate S1024 0 [⟨S512, (m ((d.tc : Thread nD τ).loc main_arg9))⟩, ⟨S512, (m ((d.tc : Thread nD τ).loc main_arg11))⟩] concatenates_S512_S512_S1024_d0) shapeCasts_S1024_S1x1024 := by
    unfold Ki.Vr Ki.W3 Ki.hostOps
    after_results_simp
    refine congrArg (fun z => shapeCast S1x1024 z shapeCasts_S1024_S1x1024) (cat1_congr ?_ ?_)
    · after_results_simp
      exact W2_keep m d main_arg9 (by decide) (by decide)
    · after_results_simp
      exact W2_keep m d main_arg11 (by decide) (by decide)
  rw [h]
  pointwise
  exact dif_pos o.isLt

/-- The joint projection's row, value half. -/
theorem Vr_v5_hi (o : Fin 512) : Ki.Vr m d main_v5 (ix2 0 (hi o)) = vec (m ((d.tc : Thread nD τ).loc main_arg11)) o := by
  have h : Ki.Vr m d main_v5 = shapeCast S1x1024 (concatenate S1024 0 [⟨S512, (m ((d.tc : Thread nD τ).loc main_arg9))⟩, ⟨S512, (m ((d.tc : Thread nD τ).loc main_arg11))⟩] concatenates_S512_S512_S1024_d0) shapeCasts_S1024_S1x1024 := by
    unfold Ki.Vr Ki.W3 Ki.hostOps
    after_results_simp
    refine congrArg (fun z => shapeCast S1x1024 z shapeCasts_S1024_S1x1024) (cat1_congr ?_ ?_)
    · after_results_simp
      exact W2_keep m d main_arg9 (by decide) (by decide)
    · after_results_simp
      exact W2_keep m d main_arg11 (by decide) (by decide)
  rw [h]
  pointwise
  exact (dif_neg (by simp [hi])).trans (congrArg (fun x : Fin 512 => (m ((d.tc : Thread nD τ).loc main_arg11)) (ix1 x)) (Fin.ext (by simp [hi])))

/-- A matrix as launched. -/
theorem Vr_v13 (e : Fin 512) (o : Fin 512) : Ki.Vr m d main_v13 (ix2 e o) = mat (m ((d.tc : Thread nD τ).loc main_arg12)) e o := by
  have h : Ki.Vr m d main_v13 = truncf (F := Ideal) .bf16 (m ((d.tc : Thread nD τ).loc main_arg12)) bitsLt_bf16_f32 := by
    unfold Ki.Vr Ki.W3 Ki.hostOps
    after_results_simp
    rw [W2_keep m d main_arg12 (by decide) (by decide)]
  rw [h]
  pointwise
  rfl

/-- A matrix as launched. -/
theorem Vr_v15 (e : Fin 512) (o : Fin 2048) : Ki.Vr m d main_v15 (ix2 e o) = mat (m ((d.tc : Thread nD τ).loc main_arg14)) e o := by
  have h : Ki.Vr m d main_v15 = truncf (F := Ideal) .bf16 (m ((d.tc : Thread nD τ).loc main_arg14)) bitsLt_bf16_f32 := by
    unfold Ki.Vr Ki.W3 Ki.hostOps
    after_results_simp
    rw [W2_keep m d main_arg14 (by decide) (by decide)]
  rw [h]
  pointwise
  rfl

/-- A matrix as launched. -/
theorem Vr_v17 (e : Fin 2048) (o : Fin 512) : Ki.Vr m d main_v17 (ix2 e o) = mat (m ((d.tc : Thread nD τ).loc main_arg16)) e o := by
  have h : Ki.Vr m d main_v17 = truncf (F := Ideal) .bf16 (m ((d.tc : Thread nD τ).loc main_arg16)) bitsLt_bf16_f32 := by
    unfold Ki.Vr Ki.W3 Ki.hostOps
    after_results_simp
    rw [W2_keep m d main_arg16 (by decide) (by decide)]
  rw [h]
  pointwise
  rfl

/-- A vector as launched. -/
theorem Vr_v14 (o : Fin 512) : Ki.Vr m d main_v14 (ix2 0 o) = vec (m ((d.tc : Thread nD τ).loc main_arg13)) o := by
  have h : Ki.Vr m d main_v14 = shapeCast S1x512 (m ((d.tc : Thread nD τ).loc main_arg13)) shapeCasts_S512_S1x512 := by
    unfold Ki.Vr Ki.W3 Ki.hostOps
    after_results_simp
    rw [W2_keep m d main_arg13 (by decide) (by decide)]
    rfl
  rw [h]
  pointwise
  rfl

/-- A vector as launched. -/
theorem Vr_v16 (o : Fin 2048) : Ki.Vr m d main_v16 (ix2 0 o) = vec (m ((d.tc : Thread nD τ).loc main_arg15)) o := by
  have h : Ki.Vr m d main_v16 = shapeCast S1x2048 (m ((d.tc : Thread nD τ).loc main_arg15)) shapeCasts_S2048_S1x2048 := by
    unfold Ki.Vr Ki.W3 Ki.hostOps
    after_results_simp
    rw [W2_keep m d main_arg15 (by decide) (by decide)]
    rfl
  rw [h]
  pointwise
  rfl

/-- A vector as launched. -/
theorem Vr_v18 (o : Fin 512) : Ki.Vr m d main_v18 (ix2 0 o) = vec (m ((d.tc : Thread nD τ).loc main_arg17)) o := by
  have h : Ki.Vr m d main_v18 = shapeCast S1x512 (m ((d.tc : Thread nD τ).loc main_arg17)) shapeCasts_S512_S1x512 := by
    unfold Ki.Vr Ki.W3 Ki.hostOps
    after_results_simp
    rw [W2_keep m d main_arg17 (by decide) (by decide)]
    rfl
  rw [h]
  pointwise
  rfl

/-- A vector as launched. -/
theorem Vr_v19 (o : Fin 512) : Ki.Vr m d main_v19 (ix2 0 o) = vec (m ((d.tc : Thread nD τ).loc main_arg18)) o := by
  have h : Ki.Vr m d main_v19 = shapeCast S1x512 (m ((d.tc : Thread nD τ).loc main_arg18)) shapeCasts_S512_S1x512 := by
    unfold Ki.Vr Ki.W3 Ki.hostOps
    after_results_simp
    rw [W2_keep m d main_arg18 (by decide) (by decide)]
    rfl
  rw [h]
  pointwise
  rfl

/-- A vector as launched. -/
theorem Vr_v20 (o : Fin 512) : Ki.Vr m d main_v20 (ix2 0 o) = vec (m ((d.tc : Thread nD τ).loc main_arg19)) o := by
  have h : Ki.Vr m d main_v20 = shapeCast S1x512 (m ((d.tc : Thread nD τ).loc main_arg19)) shapeCasts_S512_S1x512 := by
    unfold Ki.Vr Ki.W3 Ki.hostOps
    after_results_simp
    rw [W2_keep m d main_arg19 (by decide) (by decide)]
    rfl
  rw [h]
  pointwise
  rfl

/-- A vector as launched. -/
theorem Vr_v21 (o : Fin 512) : Ki.Vr m d main_v21 (ix2 0 o) = vec (m ((d.tc : Thread nD τ).loc main_arg20)) o := by
  have h : Ki.Vr m d main_v21 = shapeCast S1x512 (m ((d.tc : Thread nD τ).loc main_arg20)) shapeCasts_S512_S1x512 := by
    unfold Ki.Vr Ki.W3 Ki.hostOps
    after_results_simp
    rw [W2_keep m d main_arg20 (by decide) (by decide)]
    rfl
  rw [h]
  pointwise
  rfl

/-- A vector as launched. -/
theorem Vr_v22 (o : Fin 512) : Ki.Vr m d main_v22 (ix2 0 o) = vec (m ((d.tc : Thread nD τ).loc main_arg21)) o := by
  have h : Ki.Vr m d main_v22 = shapeCast S1x512 (m ((d.tc : Thread nD τ).loc main_arg21)) shapeCasts_S512_S1x512 := by
    unfold Ki.Vr Ki.W3 Ki.hostOps
    after_results_simp
    rw [W2_keep m d main_arg21 (by decide) (by decide)]
    rfl
  rw [h]
  pointwise
  rfl

end Cert.Proof.Value

end
-- ==== Proof.Value.Count.lean ====
/-
  The counting call's result as the layer reads it: how often each key stands in a query's list.
-/
module

public import proofs.«01_k».proof.Proof.Value.Host

@[expose] public section

set_option maxRecDepth 16384

noncomputable section

namespace Cert.Proof.Value

open Cert.KernelIdeal Cert.KernelIdeal.Gen
open Idealize.ShloMosaic Idealize.ShloMosaic.TcCoe Idealize.ShloMosaic.Tactic

/-- Zero bumped `n` times is `n`. -/
theorem ones_eq (n : ℕ) : (Ki.ones (F := Ideal) n : EReal) = ((n : ℝ) : EReal) := by
  induction n with
  | zero => show Ideal.ofBits .f32 0#32 = _; rw [Ideal.ofBits_zero_f32]; simp
  | succ n ih =>
    have h : (Ki.ones (F := Ideal) (n + 1) : EReal) = Ki.ones (F := Ideal) n + Ideal.ofBits .f32 0x3F800000#32 := by
      show (Ki.bump)^[n + 1] _ = _
      rw [Function.iterate_succ_apply']
      rfl
    rw [h, ih, Ideal.ofBits_one_f32]
    push_cast
    rfl

variable (m : (ℓ : Loc nD τ sig) → Buf (Elt Ideal) ℓ) (d : Dev nD)

/-- How often key `j` stands in query row `n`'s list. -/
def times (n : Fin 2048) (j : Fin 1024) : ℕ :=
  (Finset.univ.filter fun l : Fin 32 => (m ((d.tc : Thread nD τ).loc main_arg2) (ix2 n l) : BitVec 32).toNat = j.val).card

/-- The flat list's word at row `n`'s place `l` is the argument's. -/
theorem word_eq (n : Fin 2048) (l : Fin 32) : Ki.wordI d (Ki.Iv m d) (n.val * 32 + l.val) = (m ((d.tc : Thread nD τ).loc main_arg2) (ix2 n l) : BitVec 32).toNat := by
  have hp : n.val * 32 + l.val < 65536 := by omega
  unfold Ki.wordI
  refine (dif_pos hp).trans ?_
  have e := Ki.Iv_eq m d ⟨n.val * 32 + l.val, hp⟩
  have e1 : (⟨(n.val * 32 + l.val) / 32, by omega⟩ : Fin 2048) = n := Fin.ext (by show (n.val * 32 + l.val) / 32 = n.val; omega)
  have e2 : (⟨(n.val * 32 + l.val) % 32, by omega⟩ : Fin 32) = l := Fin.ext (by show (n.val * 32 + l.val) % 32 = l.val; omega)
  refine (congrArg BitVec.toNat e).trans ?_
  rw [ix2_eq_valueIdx]
  exact congrArg₂ (fun a b => (m ((d.tc : Thread nD τ).loc main_arg2) (ValueIdx.ix2 a b) : BitVec 32).toNat) e1 e2

/-- The counting call's array at position `1024 n + j`. -/
theorem out_eq (n : Fin 2048) (j : Fin 1024) (p : Fin 2097152) (hp : p.val = 1024 * n.val + j.val) :
    (Ki.OUT d (Ki.Iv m d) (ix1 p) : EReal) = ((times m d n j : ℝ) : EReal) := by
  unfold Ki.OUT
  refine (ones_eq _).trans ?_
  have hn : p.val / 1024 = n.val := by omega
  have hj : p.val % 1024 = j.val := by omega
  have e : ((Finset.range 32).filter fun l => Ki.wordI d (Ki.Iv m d) (p.val / 1024 * 32 + l) = p.val % 1024).card = times m d n j := by
    unfold times
    rw [hn, hj]
    refine Finset.card_bij' (fun l hl => ⟨l, Finset.mem_range.1 (Finset.mem_filter.1 hl).1⟩) (fun l _ => l.val) ?_ ?_ (fun _ _ => rfl) (fun _ _ => rfl)
    · intro l hl
      obtain ⟨h1, h2⟩ := Finset.mem_filter.1 hl
      exact Finset.mem_filter.2 ⟨Finset.mem_univ _, (word_eq m d n ⟨l, Finset.mem_range.1 h1⟩).symm.trans h2⟩
    · intro l hl
      exact Finset.mem_filter.2 ⟨Finset.mem_range.2 l.isLt, (word_eq m d n l).trans (Finset.mem_filter.1 hl).2⟩
  exact congrArg (fun k : ℕ => ((k : ℝ) : EReal)) e

/-- The layer's multiplicities. -/
theorem Vr_v2 (n : Fin 2048) (j : Fin 1024) : Ki.Vr m d main_v2 (ix2 n j) = ((times m d n j : ℝ) : EReal) := by
  have h : Ki.Vr m d main_v2 = shapeCast S2048x1024 (Ki.OUT d (Ki.Iv m d)) shapeCasts_S2097152_S2048x1024 := by
    unfold Ki.Vr Ki.W3 Ki.hostOps
    after_results_simp
    unfold Ki.W2
    rw [Function.update_self]
    rfl
  rw [h]
  pointwise
  refine out_eq m d n j _ ?_
  simp
  omega

end Cert.Proof.Value

end
-- ==== Proof.Value.Math.lean ====
/-
  The two normalisations are one, and attention over all keys with multiplicities is attention over the list of keys.
-/
module

public import proofs.«01_k».proof.Proof.Value.Spec
public import proofs.«01_k».proof.Proof.Value.Block

@[expose] public section

noncomputable section

namespace Cert.Proof.Value

open Idealize.ShloMosaic

/-! ## Constants -/

theorem c512_eq : c512 = ((512 : ℝ) : EReal) := by
  unfold c512; simp [Ideal.ofBits, Ideal.ieee, -EReal.coe_mul]; norm_num
theorem c8_eq : Ideal.ofBits .f32 0x41000000#32 = ((8 : ℝ) : EReal) := by
  simp [Ideal.ofBits, Ideal.ieee, -EReal.coe_mul]; norm_num
theorem eighth_eq : Ideal.ofBits .f32 0x3E000000#32 = ((1 / 8 : ℝ) : EReal) := by
  simp [Ideal.ofBits, Ideal.ieee, -EReal.coe_mul]; norm_num
theorem eps_pos : (0 : EReal) < eps := by
  unfold eps; simp [Ideal.ofBits, Ideal.ieee, -EReal.coe_mul]

/-! ## The normalisations -/

theorem sq_nonneg' (x : EReal) : 0 ≤ x * x := by
  rcases le_total 0 x with h | h
  · exact mul_nonneg h h
  · rw [← neg_mul_neg x x]
    exact mul_nonneg (EReal.neg_nonneg.2 h) (EReal.neg_nonneg.2 h)

/-- Division by a positive real is multiplication with its inverse. -/
theorem div_real (x : EReal) {r : ℝ} (hr : r ≠ 0) : Ideal.div x (r : EReal) = x * ((r⁻¹ : ℝ) : EReal) := by
  unfold Ideal.div
  rw [if_neg (by simpa using hr), EReal.coe_inv]

/-- The spread of a row is positive. -/
theorem spread_pos (x : Fin 512 → EReal) : 0 < spread x := by
  have h : 0 ≤ mean fun k => cen x k * cen x k := by
    unfold mean
    rw [c512_eq, div_real _ (by norm_num)]
    exact mul_nonneg (Finset.sum_nonneg fun k _ => sq_nonneg' _) (EReal.coe_nonneg.2 (by norm_num))
  unfold spread
  exact lt_of_lt_of_le eps_pos (le_add_of_nonneg_left h)

/-- A positive number's reciprocal root. -/
theorem mul_rsqrt (x s : EReal) (hs : 0 < s) : x * Ideal.rsqrt s = Ideal.div x (Ideal.sqrt s) := by
  induction s using EReal.rec with
  | bot => exact absurd hs (by simp)
  | top =>
    show x * (0 : EReal) = if (⊤ : EReal) = 0 then _ else x * (⊤ : EReal)⁻¹
    rw [if_neg (by simp), EReal.inv_top]
  | coe r =>
    have hr : 0 < r := by exact_mod_cast hs
    have hq : Real.sqrt r ≠ 0 := (Real.sqrt_pos.2 hr).ne'
    have h1 : Ideal.sqrt (r : EReal) = ((Real.sqrt r : ℝ) : EReal) := if_neg hr.not_gt
    have h2 : Ideal.rsqrt (r : EReal) = (((Real.sqrt r)⁻¹ : ℝ) : EReal) := (if_neg hr.not_gt).trans (if_neg hr.ne')
    rw [h1, h2, div_real _ hq]

/-- The two normalisations agree. -/
theorem lnR_eq : lnR = ln := by
  funext x g b c
  unfold lnR ln
  rw [mul_rsqrt _ _ (spread_pos x)]

/-- A row with an infinite entry. -/
def Infinite (x : Fin 512 → EReal) : Prop := ∃ k, x k = ⊤ ∨ x k = ⊥

/-- A sum with an infinite summand is infinite. -/
theorem sum_infinite {x : Fin 512 → EReal} (h : Infinite x) : (∑ k, x k) = ⊤ ∨ (∑ k, x k) = ⊥ := by
  obtain ⟨k, hk⟩ := h
  rw [← Finset.add_sum_erase _ _ (Finset.mem_univ k)]
  rcases hk with hk | hk
  · rw [hk]
    by_cases hb : (∑ i ∈ Finset.univ.erase k, x i) = ⊥
    · right; rw [hb]; exact EReal.add_bot _
    · left; exact EReal.top_add_of_ne_bot hb
  · right; rw [hk]; exact EReal.bot_add _

/-- The mean of a row with an infinite entry is infinite. -/
theorem mean_infinite {x : Fin 512 → EReal} (h : Infinite x) : mean x = ⊤ ∨ mean x = ⊥ := by
  unfold mean
  rw [c512_eq, div_real _ (by norm_num)]
  rcases sum_infinite h with e | e
  · left; rw [e]; exact EReal.top_mul_coe_of_pos (by norm_num)
  · right; rw [e]; exact EReal.bot_mul_coe_of_pos (by norm_num)

/-- Less an infinite number everything is infinite, and its square is the greatest. -/
theorem sq_sub_infinite (a : EReal) {b : EReal} (h : b = ⊤ ∨ b = ⊥) : (a - b) * (a - b) = ⊤ := by
  rcases h with rfl | rfl
  · rw [EReal.sub_top]; rfl
  · induction a using EReal.rec with
    | bot => rfl
    | top => rfl
    | coe r => rw [EReal.coe_sub_bot]; rfl

/-- The spread of a row with an infinite entry. -/
theorem spread_infinite {x : Fin 512 → EReal} (h : Infinite x) : spread x = ⊤ := by
  have hc : (fun k => cen x k * cen x k) = fun _ => ⊤ := funext fun k => sq_sub_infinite _ (mean_infinite h)
  have hm : mean (fun k => cen x k * cen x k) = ⊤ := by
    rcases mean_infinite (x := fun k => cen x k * cen x k) ⟨0, .inl (congrFun hc 0)⟩ with e | e
    · exact e
    · have h0 : 0 ≤ mean fun k => cen x k * cen x k := by
        unfold mean
        rw [c512_eq, div_real _ (by norm_num)]
        exact mul_nonneg (Finset.sum_nonneg fun k _ => sq_nonneg' _) (EReal.coe_nonneg.2 (by norm_num))
      rw [e] at h0
      exact absurd h0 (by simp)
  unfold spread
  rw [hm]
  exact EReal.top_add_of_ne_bot (ne_of_gt (lt_trans (EReal.bot_lt_zero) eps_pos))

/-- Normalising a row with an infinite entry leaves the added row. -/
theorem ln_infinite {x : Fin 512 → EReal} (h : Infinite x) (g b : Fin 512 → EReal) : ln x g b = b := by
  funext c
  unfold ln
  rw [spread_infinite h]
  have : Ideal.div (cen x c) (Ideal.sqrt ⊤) = 0 := by
    show (if (⊤ : EReal) = 0 then _ else cen x c * (⊤ : EReal)⁻¹) = 0
    rw [if_neg (by simp), EReal.inv_top, mul_zero]
  rw [this, zero_mul, zero_add]

/-- A sum with an infinite row is infinite. -/
theorem infinite_add {t : Fin 512 → EReal} (h : Infinite t) (y : Fin 512 → EReal) : Infinite fun c => t c + y c := by
  obtain ⟨k, hk⟩ := h
  refine ⟨k, ?_⟩
  rcases hk with hk | hk
  · show t k + y k = ⊤ ∨ t k + y k = ⊥
    rw [hk]
    by_cases hb : y k = ⊥
    · right; rw [hb]; exact EReal.add_bot _
    · left; exact EReal.top_add_of_ne_bot hb
  · right
    show t k + y k = ⊥
    rw [hk]; exact EReal.bot_add _

/-- With an infinite entry in the row the attention does not matter. -/
theorem tail_infinite {t : Fin 512 → EReal} (h : Infinite t) (att att' : Fin 512 → EReal) (wo : Fin 512 → Fin 512 → EReal) (bo : Fin 512 → EReal) (w1 : Fin 512 → Fin 2048 → EReal)
    (b1 : Fin 2048 → EReal) (w2 : Fin 2048 → Fin 512 → EReal) (b2 g1 e1 g2 e2 : Fin 512 → EReal) :
    tailOf ln t att wo bo w1 b1 w2 b2 g1 e1 g2 e2 = tailOf ln t att' wo bo w1 b1 w2 b2 g1 e1 g2 e2 := by
  unfold tailOf
  rw [ln_infinite (infinite_add h _), ln_infinite (infinite_add h _)]

/-- A row without an infinite entry is a row of reals. -/
theorem real_of_not_infinite {t : Fin 512 → EReal} (h : ¬ Infinite t) : ∃ f : Fin 512 → ℝ, t = fun k => (f k : EReal) :=
  ⟨fun k => (t k).toReal, funext fun k => (EReal.coe_toReal (fun e => h ⟨k, .inl e⟩) (fun e => h ⟨k, .inr e⟩)).symm⟩

/-! ## Attention -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A projection of reals. -/
def projR {K N : ℕ} (x : Fin K → ℝ) (w : Fin K → Fin N → ℝ) (b : Fin N → ℝ) (c : Fin N) : ℝ := (∑ k, x k * w k c) + b c

theorem proj_coe {K N : ℕ} (x : Fin K → ℝ) (w : Fin K → Fin N → ℝ) (b : Fin N → ℝ) (c : Fin N) :
    proj (fun k => (x k : EReal)) (fun k c => (w k c : EReal)) (fun c => (b c : EReal)) c = (projR x w b c : EReal) := by
  unfold proj projR
  rw [EReal.coe_add, coe_sum]
  simp only [EReal.coe_mul]

/-- A projection whose matrix and row are scaled is the scaled projection. -/
theorem proj_scaled {K N : ℕ} (x : Fin K → ℝ) (w : Fin K → Fin N → ℝ) (b : Fin N → ℝ) (r : ℝ) (c : Fin N) :
    proj (fun k => (x k : EReal)) (fun k c => (w k c : EReal) * (r : EReal)) (fun c => (b c : EReal) * (r : EReal)) c = ((projR x w b c * r : ℝ) : EReal) := by
  have h := proj_coe x (fun k c => w k c * r) (fun c => b c * r) c
  simp only [EReal.coe_mul] at h
  rw [h]
  congr 1
  unfold projR
  rw [add_mul, Finset.sum_mul]
  simp only [mul_assoc]

/-- The score of real rows. -/
def scoreR (q k : Fin 512 → ℝ) (h : Fin 8) : ℝ := ∑ d : Fin 64, q (col h d) * k (col h d)

theorem score_coe (q k : Fin 512 → ℝ) (h : Fin 8) : score (fun c => (q c : EReal)) (fun c => (k c : EReal)) h = (scoreR q k h : EReal) := by
  unfold score scoreR
  rw [coe_sum]
  simp only [EReal.coe_mul]

/-- The greatest of finitely many reals, at least one, is a real. -/
theorem top_coe {n : ℕ} (s : Fin (n + 1) → ℝ) : ∃ M : ℝ, top (fun i => (s i : EReal)) = (M : EReal) := by
  have h1 : ∀ i, (s i : EReal) ≤ top fun i => (s i : EReal) := fun i => (Finset.le_fold_max _).2 (.inr ⟨i, Finset.mem_univ _, le_rfl⟩)
  have h2 : top (fun i => (s i : EReal)) < ⊤ := (Finset.fold_max_lt _).2 ⟨by simp, fun i _ => EReal.coe_lt_top _⟩
  have h3 : ⊥ < top fun i => (s i : EReal) := lt_of_lt_of_le (EReal.bot_lt_coe _) (h1 0)
  exact ⟨_, (EReal.coe_toReal h2.ne h3.ne').symm⟩

theorem exp_coe (x y : ℝ) : Ideal.exp ((x : EReal) - (y : EReal)) = ((Real.exp (x - y) : ℝ) : EReal) := by
  rw [← EReal.coe_sub]; rfl

/-- A count times a product is the product added that often. -/
theorem count_mul (k : ℕ) (a : ℝ) (ha : 0 ≤ a) (w : EReal) : (((k : ℝ) * a : ℝ) : EReal) * w = k • ((a : EReal) * w) := by
  induction k with
  | zero => simp
  | succ k ih =>
    rw [succ_nsmul, ← ih, ← EReal.right_distrib_of_nonneg (EReal.coe_nonneg.2 (by positivity)) (EReal.coe_nonneg.2 ha), ← EReal.coe_add]
    congr 2
    push_cast
    ring

/-- Counting each key as often as the list names it is summing over the list. -/
theorem sum_times {n : ℕ} (idx : Fin n → Fin 1024) (a : Fin 1024 → ℝ) (ha : ∀ j, 0 ≤ a j) (w : Fin 1024 → EReal) :
    ∑ j, ((((Finset.univ.filter fun l => idx l = j).card : ℝ) * a j : ℝ) : EReal) * w j = ∑ l, (a (idx l) : EReal) * w (idx l) := by
  rw [← Finset.sum_fiberwise (g := idx)]
  refine Finset.sum_congr rfl fun j _ => ?_
  rw [Finset.sum_congr rfl (g := fun _ => (a j : EReal) * w j) fun l hl => by rw [(Finset.mem_filter.1 hl).2], Finset.sum_const, count_mul _ _ (ha j)]

/-- The same of reals. -/
theorem sum_timesR {n : ℕ} (idx : Fin n → Fin 1024) (f : Fin 1024 → ℝ) :
    ∑ j, ((Finset.univ.filter fun l => idx l = j).card : ℝ) * f j = ∑ l, f (idx l) := by
  rw [← Finset.sum_fiberwise (g := idx)]
  refine Finset.sum_congr rfl fun j _ => ?_
  rw [Finset.sum_congr rfl (g := fun _ => f j) fun l hl => by rw [(Finset.mem_filter.1 hl).2]]
  simp

/-- A nonnegative real factor of a sum of extended reals. -/
theorem sum_scale {ι : Type*} (s : Finset ι) (f : ι → EReal) (r : ℝ) (hr : 0 ≤ r) : (∑ i ∈ s, f i) * (r : EReal) = ∑ i ∈ s, f i * (r : EReal) := by
  classical
  induction s using Finset.induction_on with
  | empty => simp
  | insert a s h ih =>
    rw [Finset.sum_insert h, Finset.sum_insert h, ← ih, mul_comm, EReal.left_distrib_of_nonneg_of_ne_top (EReal.coe_nonneg.2 hr) (EReal.coe_ne_top r), mul_comm, mul_comm (r : EReal)]

/-- The softmax weights do not depend on the shift. -/
theorem weight_shift {n : ℕ} (s : Fin n → ℝ) (M N : ℝ) (l : Fin n) :
    Real.exp (s l - M) * (∑ i, Real.exp (s i - M))⁻¹ = Real.exp (s l - N) * (∑ i, Real.exp (s i - N))⁻¹ := by
  have h : ∀ l, Real.exp (s l - M) = Real.exp (N - M) * Real.exp (s l - N) := fun l => by rw [← Real.exp_add]; ring_nf
  simp only [h]
  rw [← Finset.mul_sum, ← div_eq_mul_inv, ← div_eq_mul_inv, mul_div_mul_left _ _ (Real.exp_pos _).ne']

/-- Attention over all keys, each counted as often as the list names it, is attention over the list. -/
theorem att_eq (q : Fin 512 → ℝ) (k : Fin 1024 → Fin 512 → ℝ) (v : Fin 1024 → Fin 512 → EReal) (idx : Fin 32 → Fin 1024) (c : Fin 512) :
    attK (fun e => ((q e * (1 / 8) : ℝ) : EReal)) (fun j e => (k j e : EReal)) v
        (fun j => (((Finset.univ.filter fun l => idx l = j).card : ℝ) : EReal)) c
      = attR (fun e => (q e : EReal)) (fun l e => (k (idx l) e : EReal)) (fun l => v (idx l)) c := by
  unfold attK headK attR
  simp only [score_coe, c8_eq]
  have hd8 : ∀ x : ℝ, Ideal.div (x : EReal) ((8 : ℝ) : EReal) = ((x / 8 : ℝ) : EReal) := fun x => by
    rw [div_real _ (by norm_num), ← EReal.coe_mul]; rfl
  simp only [hd8]
  obtain ⟨M, hM⟩ := top_coe (n := 1023) fun i => scoreR (fun e => q e * (1 / 8)) (k i) (hd c)
  obtain ⟨N, hN⟩ := top_coe (n := 31) fun l => scoreR q (k (idx l)) (hd c) / 8
  have hs : ∀ j, scoreR (fun e => q e * (1 / 8)) (k j) (hd c) = scoreR q (k j) (hd c) / 8 := fun j => by
    unfold scoreR
    rw [Finset.sum_div]
    exact Finset.sum_congr rfl fun d _ => by ring
  rw [hM, hN]
  simp only [exp_coe, ← EReal.coe_mul, ← coe_sum, hs]
  have p1 : 0 < ∑ l, Real.exp (scoreR q (k (idx l)) (hd c) / 8 - M) := Finset.sum_pos (fun _ _ => Real.exp_pos _) ⟨0, Finset.mem_univ _⟩
  have p2 : 0 < ∑ l, Real.exp (scoreR q (k (idx l)) (hd c) / 8 - N) := Finset.sum_pos (fun _ _ => Real.exp_pos _) ⟨0, Finset.mem_univ _⟩
  rw [sum_timesR idx fun j => Real.exp (scoreR q (k j) (hd c) / 8 - M), sum_times idx _ (fun _ => (Real.exp_pos _).le) fun j => v j c]
  simp only [div_real _ p1.ne', div_real _ p2.ne', ← EReal.coe_mul]
  rw [sum_scale _ _ _ (inv_nonneg.2 p1.le)]
  refine Finset.sum_congr rfl fun l _ => ?_
  rw [mul_right_comm, ← EReal.coe_mul]
  exact congrArg (fun r : ℝ => (r : EReal) * v (idx l) c) (weight_shift (fun l => scoreR q (k (idx l)) (hd c) / 8) M N l)

/-- The attention of the projected rows. -/
theorem att_full (t : Fin 512 → ℝ) (x : Fin 1024 → Fin 512 → ℝ) (wq wk : Fin 512 → Fin 512 → ℝ) (bq bk : Fin 512 → ℝ) (v : Fin 1024 → Fin 512 → EReal) (idx : Fin 32 → Fin 1024) :
    attK (proj (fun e => (t e : EReal)) (fun e o => (wq e o : EReal) * ((1 / 8 : ℝ) : EReal)) (fun o => (bq o : EReal) * ((1 / 8 : ℝ) : EReal)))
        (fun j e => proj (fun e => (x j e : EReal)) (fun e o => (wk e o : EReal)) (fun o => (bk o : EReal)) e)
        v
        (fun j => (((Finset.univ.filter fun l => idx l = j).card : ℝ) : EReal))
      = attR (proj (fun e => (t e : EReal)) (fun e o => (wq e o : EReal)) (fun o => (bq o : EReal)))
        (fun l => proj (fun e => (x (idx l) e : EReal)) (fun e o => (wk e o : EReal)) (fun o => (bk o : EReal)))
        (fun l => v (idx l)) := by
  have h1 : proj (fun e => (t e : EReal)) (fun e o => (wq e o : EReal) * ((1 / 8 : ℝ) : EReal)) (fun o => (bq o : EReal) * ((1 / 8 : ℝ) : EReal))
      = fun c => ((projR t wq bq c * (1 / 8) : ℝ) : EReal) := funext fun c => proj_scaled t wq bq _ c
  have h2 : ∀ (u : Fin 512 → ℝ) (w : Fin 512 → Fin 512 → ℝ) (b : Fin 512 → ℝ),
      proj (fun e => (u e : EReal)) (fun e o => (w e o : EReal)) (fun o => (b o : EReal)) = fun c => (projR u w b c : EReal) := fun u w b => funext fun c => proj_coe u w b c
  funext c
  rw [h1]
  simp only [h2]
  exact att_eq (projR t wq bq) (fun j => projR (x j) wk bk) v idx c

/-- A matrix of reals. -/
theorem mat_real {r c : ℕ} {a : (⟨2, ![r, c]⟩ : Shape).Idx → EReal} (h : ∀ i, ∃ x : ℝ, a i = (x : EReal)) :
    ∃ f : Fin r → Fin c → ℝ, mat a = fun i j => (f i j : EReal) := by
  choose g hg using h
  exact ⟨fun i j => g (ix2 i j), funext fun i => funext fun j => hg _⟩

/-- A vector of reals. -/
theorem vec_real {n : ℕ} {a : (⟨1, ![n]⟩ : Shape).Idx → EReal} (h : ∀ i, ∃ x : ℝ, a i = (x : EReal)) :
    ∃ f : Fin n → ℝ, vec a = fun i => (f i : EReal) := by
  choose g hg using h
  exact ⟨fun i => g (ix1 i), funext fun i => hg _⟩

/-- The attention over all keys of projections of finite data is the attention over the listed keys. -/
theorem att_mat (a0 : (⟨2, ![2048, 512]⟩ : Shape).Idx → EReal) (n : Fin 2048) (h0 : ¬ Infinite (mat a0 n)) (a1 : (⟨2, ![8192, 512]⟩ : Shape).Idx → EReal)
    (a6 a8 a10 : (⟨2, ![512, 512]⟩ : Shape).Idx → EReal) (a7 a9 a11 : (⟨1, ![512]⟩ : Shape).Idx → EReal)
    (h1 : ∀ i, ∃ x : ℝ, a1 i = (x : EReal)) (h6 : ∀ i, ∃ x : ℝ, a6 i = (x : EReal)) (h7 : ∀ i, ∃ x : ℝ, a7 i = (x : EReal))
    (h8 : ∀ i, ∃ x : ℝ, a8 i = (x : EReal)) (h9 : ∀ i, ∃ x : ℝ, a9 i = (x : EReal))
    (idx : Fin 32 → Fin 1024) :
    attK (proj (mat a0 n) (fun e o => mat a6 e o * Ideal.ofBits .f32 0x3E000000#32) (fun o => vec a7 o * Ideal.ofBits .f32 0x3E000000#32))
        (fun j e => proj (mat a1 (keyRow n j)) (mat a8) (vec a9) e) (fun j e => proj (mat a1 (keyRow n j)) (mat a10) (vec a11) e)
        (fun j => (((Finset.univ.filter fun l => idx l = j).card : ℝ) : EReal))
      = attR (proj (mat a0 n) (mat a6) (vec a7)) (fun l => proj (mat a1 (keyRow n (idx l))) (mat a8) (vec a9)) (fun l => proj (mat a1 (keyRow n (idx l))) (mat a10) (vec a11)) := by
  obtain ⟨t, e0⟩ := real_of_not_infinite h0
  obtain ⟨x, e1⟩ := mat_real h1
  obtain ⟨wq, e6⟩ := mat_real h6
  obtain ⟨bq, e7⟩ := vec_real h7
  obtain ⟨wk, e8⟩ := mat_real h8
  obtain ⟨bk, e9⟩ := vec_real h9
  rw [e0, e6, e7, e8, e9, eighth_eq]
  have e1' : ∀ j, mat a1 (keyRow n j) = fun e => (x (keyRow n j) e : EReal) := fun j => congrFun e1 _
  simp only [e1']
  exact att_full t (fun j => x (keyRow n j)) wq wk bq bk _ idx

end Cert.Proof.Value

end
-- ==== Proof.Value.KernelSide.lean ====
/-
  The kernel's result is the layer.
-/
module

public import proofs.«01_k».proof.Proof.Value.Count
public import proofs.«01_k».proof.Proof.Value.Math

@[expose] public section

set_option maxRecDepth 16384

noncomputable section

namespace Cert.Proof.Value

open Cert.KernelIdeal Cert.KernelIdeal.Gen
open Idealize.ShloMosaic Idealize.ShloMosaic.TcCoe

/-- What follows the attention depends on its inputs. -/
theorem tail_congr {L : (Fin 512 → EReal) → (Fin 512 → EReal) → (Fin 512 → EReal) → Fin 512 → EReal} {t t' att att' : Fin 512 → EReal} {wo wo' : Fin 512 → Fin 512 → EReal} {bo bo' : Fin 512 → EReal}
    {w1 w1' : Fin 512 → Fin 2048 → EReal} {b1 b1' : Fin 2048 → EReal} {w2 w2' : Fin 2048 → Fin 512 → EReal} {b2 b2' g1 g1' e1 e1' g2 g2' e2 e2' : Fin 512 → EReal}
    (ht : t = t') (ha : att = att') (hwo : wo = wo') (hbo : bo = bo') (hw1 : w1 = w1') (hb1 : b1 = b1') (hw2 : w2 = w2') (hb2 : b2 = b2') (hg1 : g1 = g1') (he1 : e1 = e1')
    (hg2 : g2 = g2') (he2 : e2 = e2') (e : Fin 512) : tailOf L t att wo bo w1 b1 w2 b2 g1 e1 g2 e2 e = tailOf L t' att' wo' bo' w1' b1' w2' b2' g1' e1' g2' e2' e := by
  subst ht ha hwo hbo hw1 hb1 hw2 hb2 hg1 he1 hg2 he2; rfl

/-- The attention over all keys depends on its inputs. -/
theorem attK_congr {q q' : Fin 512 → EReal} {k k' v v' : Fin 1024 → Fin 512 → EReal} {mu mu' : Fin 1024 → EReal} (hq : q = q') (hk : k = k') (hv : v = v') (hm : mu = mu') :
    attK q k v mu = attK q' k' v' mu' := by subst hq hk hv hm; rfl

/-- A projection depends on its inputs. -/
theorem proj_congr {K N : ℕ} {x x' : Fin K → EReal} {w w' : Fin K → Fin N → EReal} {b b' : Fin N → EReal} (hx : x = x') (hw : w = w') (hb : b = b') : proj x w b = proj x' w' b' := by
  subst hx hw hb; rfl

variable (m : (ℓ : Loc nD τ sig) → Buf (Elt Ideal) ℓ) (d : Dev nD)

/-- The kernel's result, from a finite memory, finite query and key weights and key indices below 1024. -/
theorem out_layer (hi : ∀ (n : Fin 2048) (l : Fin 32), (m ((d.tc : Thread nD τ).loc main_arg2) (ix2 n l) : BitVec 32).toNat < 1024)
    (h1 : ∀ i, ∃ x : ℝ, (m ((d.tc : Thread nD τ).loc main_arg1) i : EReal) = (x : EReal))
    (h6 : ∀ i, ∃ x : ℝ, (m ((d.tc : Thread nD τ).loc main_arg6) i : EReal) = (x : EReal))
    (h7 : ∀ i, ∃ x : ℝ, (m ((d.tc : Thread nD τ).loc main_arg7) i : EReal) = (x : EReal))
    (h8 : ∀ i, ∃ x : ℝ, (m ((d.tc : Thread nD τ).loc main_arg8) i : EReal) = (x : EReal))
    (h9 : ∀ i, ∃ x : ℝ, (m ((d.tc : Thread nD τ).loc main_arg9) i : EReal) = (x : EReal)) :
    Ki.outArr m d = fun i => layer (m ((d.tc : Thread nD τ).loc main_arg0)) (m ((d.tc : Thread nD τ).loc main_arg1)) (fun n l => ⟨(m ((d.tc : Thread nD τ).loc main_arg2) (ix2 n l) : BitVec 32).toNat, hi n l⟩) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (i 0) (i 1) := by
  unfold Ki.outArr
  rw [arr_eq (Ki.Vr m) d]
  funext i
  show layerK (Ki.Vr m) d (i 0) (i 1) = _
  generalize (i 0 : Fin 2048) = n
  generalize (i 1 : Fin 512) = e
  have k0 : Ki.Vr m d main_arg0 = (m ((d.tc : Thread nD τ).loc main_arg0)) := Vr_keep m d main_arg0 (by decide) (by decide) (by decide)
  have k1 : Ki.Vr m d main_arg1 = (m ((d.tc : Thread nD τ).loc main_arg1)) := Vr_keep m d main_arg1 (by decide) (by decide) (by decide)
  have ht : ∀ j, (times m d n j : ℝ) = ((Finset.univ.filter fun l : Fin 32 => (⟨(m ((d.tc : Thread nD τ).loc main_arg2) (ix2 n l) : BitVec 32).toNat, hi n l⟩ : Fin 1024) = j).card : ℝ) := by
    intro j
    unfold times
    refine congrArg (fun s : Finset (Fin 32) => (s.card : ℝ)) (Finset.filter_congr fun l _ => ?_)
    rw [Fin.ext_iff]
  have x0 : (fun e => Ki.Vr m d main_arg0 (ix2 n e) : Fin 512 → EReal) = mat (m ((d.tc : Thread nD τ).loc main_arg0)) n := funext fun e => congrFun k0 (ix2 n e)
  have x1 : ∀ j, (fun e => Ki.Vr m d main_arg1 (ix2 (keyRow n j) e) : Fin 512 → EReal) = mat (m ((d.tc : Thread nD τ).loc main_arg1)) (keyRow n j) := fun j => funext fun e => congrFun k1 (ix2 (keyRow n j) e)
  unfold layerK
  rw [lnR_eq]
  by_cases h0 : Infinite (mat (m ((d.tc : Thread nD τ).loc main_arg0)) n)
  · refine Eq.trans (tail_congr x0 rfl (funext fun a => funext fun b => Vr_v13 m d a b) (funext fun a => Vr_v14 m d a) (funext fun a => funext fun b => Vr_v15 m d a b) (funext fun a => Vr_v16 m d a) (funext fun a => funext fun b => Vr_v17 m d a b) (funext fun a => Vr_v18 m d a) (funext fun a => Vr_v19 m d a) (funext fun a => Vr_v20 m d a) (funext fun a => Vr_v21 m d a) (funext fun a => Vr_v22 m d a) e)
      (congrFun (tail_infinite h0 _ _ _ _ _ _ _ _ _ _ _ _) e)
  · refine tail_congr x0 ?_ (funext fun a => funext fun b => Vr_v13 m d a b) (funext fun a => Vr_v14 m d a) (funext fun a => funext fun b => Vr_v15 m d a b) (funext fun a => Vr_v16 m d a) (funext fun a => funext fun b => Vr_v17 m d a b) (funext fun a => Vr_v18 m d a) (funext fun a => Vr_v19 m d a) (funext fun a => Vr_v20 m d a) (funext fun a => Vr_v21 m d a) (funext fun a => Vr_v22 m d a) e
    refine Eq.trans (attK_congr (proj_congr x0 (funext fun a => funext fun b => Vr_v8 m d a b) (funext fun a => Vr_v11 m d a))
      (funext fun j => proj_congr (x1 j) (funext fun a => funext fun b => Vr_v12_lo m d a b) (funext fun a => Vr_v5_lo m d a))
      (funext fun j => proj_congr (x1 j) (funext fun a => funext fun b => Vr_v12_hi m d a b) (funext fun a => Vr_v5_hi m d a))
      (funext fun j => (Vr_v2 m d n j).trans (congrArg Real.toEReal (ht j)))) ?_
    exact att_mat _ n h0 _ _ _ _ _ _ _ h1 h6 h7 h8 h9 _

end Cert.Proof.Value

end
-- ==== Proof.Value.RefIdx.lean ====
/-
  The rows the reference gathers: each batch's keys start at 1024 times the batch.
-/
module

public import proofs.«01_k».proof.Proof.Gen.ReferenceIdeal.Run
public import proofs.«01_k».proof.Proof.Value.Spec
public import Idealize.ShloMosaic.Lib.Pointwise
public import Idealize.ShloMosaic.Lib.Pointwise.IndexBridge

@[expose] public section

set_option maxRecDepth 16384

noncomputable section

namespace Cert.Proof.Value.Ref

open Cert.ReferenceIdeal Cert.ReferenceIdeal.Gen Cert.ReferenceIdeal.Value
open Idealize.ShloMosaic Idealize.ShloMosaic.TcCoe

/-- Where each batch's keys start, when every batch has 1024. -/
theorem starts (b : Fin 8) :
    (concatenate S8 0 [⟨S1, (broadcastInDim S1 ![] bcast_S_S1 (constantI S_ 32 0#32))⟩, ⟨S7, (extractStridedSlice (s := S8) S7 ![0] (Host.reduceWindow IntOp.addi ![8] ![1] ![7] ![0] (fun _ => 1024#32 : IVec S8 32) (broadcastInDim S_ ![] bcast_S_S_ (constantI S_ 32 0#32)) reduceWindows_S8_S8_w8s1p7_0 h_S_) slices_S8_S7_0)⟩] concatenates_S1_S7_S8_d0 : IVec S8 32) (ix1 b) = BitVec.ofNat 32 (1024 * b.val) := by
  revert b
  decide +kernel

/-- Taking entries of an eight-element vector. -/
theorem gather8_apply {α : Type} (x : S8.Idx → α) (idx : IVec S2048x1 32) (n : Fin 2048) (b : Fin 8) (hb : (idx (ix2 n 0)).toInt.toNat = b.val) :
    Host.gather gather_S8_S2048x1_S2048_n_0_n_n_0_1_1 x idx (ix1 n) = x (ix1 b) := by
  unfold Host.gather
  refine congrArg x (funext fun a => ?_)
  obtain rfl : a = 0 := Subsingleton.elim _ _
  refine Fin.ext ?_
  show (gather_S8_S2048x1_S2048_n_0_n_n_0_1_1).start (ix1 n) idx 0 + (gather_S8_S2048x1_S2048_n_0_n_n_0_1_1).batchCoord (ix1 n) 0 + (gather_S8_S2048x1_S2048_n_0_n_n_0_1_1).offCoord (ix1 n) 0 = b.val
  rw [GatherDims.batchCoord_eq_zero _ _ _ List.not_mem_nil, GatherDims.offCoord_eq_zero _ _ _ (by decide)]
  unfold GatherDims.start
  rw [dif_pos (by decide)]
  have hs : (gather_S8_S2048x1_S2048_n_0_n_n_0_1_1).siIdx (ix1 n) ⟨List.idxOf (0 : Fin 1) (gather_S8_S2048x1_S2048_n_0_n_n_0_1_1).startIndexMap,
      List.idxOf_lt_length_iff.2 (by decide)⟩ = ix2 n 0 := by
    funext q; refine Fin.ext ?_
    match q with
    | ⟨0, _⟩ => rfl
    | ⟨1, _⟩ => rfl
  rw [hs]
  show min (idx (ix2 n 0)).toInt.toNat 7 + 0 + 0 = b.val
  omega

/-- Taking rows of an array of 8192 rows. -/
theorem gatherRows_apply {α : Type} (x : S8192x512.Idx → α) (idx : IVec S2048x32x1 32) (n : Fin 2048) (l : Fin 32) (e : Fin 512) (r : Fin 8192)
    (hr : (idx (ix3 n l 0)).toInt.toNat = r.val) :
    Host.gather gather_S8192x512_S2048x32x1_S2048x32x512_2_0_n_n_0_2_1512 x idx (ix3 n l e) = x (ix2 r e) := by
  unfold Host.gather
  refine congrArg x (funext fun a => ?_)
  refine Fin.ext ?_
  show (gather_S8192x512_S2048x32x1_S2048x32x512_2_0_n_n_0_2_1512).start (ix3 n l e) idx a + (gather_S8192x512_S2048x32x1_S2048x32x512_2_0_n_n_0_2_1512).batchCoord (ix3 n l e) a
    + (gather_S8192x512_S2048x32x1_S2048x32x512_2_0_n_n_0_2_1512).offCoord (ix3 n l e) a = _
  rw [GatherDims.batchCoord_eq_zero _ _ _ List.not_mem_nil]
  have ha : a = 0 ∨ a = 1 := by
    match a with
    | ⟨0, _⟩ => exact .inl rfl
    | ⟨1, _⟩ => exact .inr rfl
  rcases ha with rfl | rfl
  · rw [GatherDims.offCoord_eq_zero _ _ _ (by decide)]
    unfold GatherDims.start
    rw [dif_pos (by decide)]
    have hs : (gather_S8192x512_S2048x32x1_S2048x32x512_2_0_n_n_0_2_1512).siIdx (ix3 n l e) ⟨List.idxOf (0 : Fin 2) (gather_S8192x512_S2048x32x1_S2048x32x512_2_0_n_n_0_2_1512).startIndexMap,
        List.idxOf_lt_length_iff.2 (by decide)⟩ = ix3 n l 0 := by
      funext q; refine Fin.ext ?_
      match q with
      | ⟨0, _⟩ => rfl
      | ⟨1, _⟩ => rfl
      | ⟨2, _⟩ => rfl
    rw [hs]
    show min (idx (ix3 n l 0)).toInt.toNat 8191 + 0 + 0 = r.val
    omega
  · unfold GatherDims.start
    rw [dif_neg (by decide)]
    unfold GatherDims.offCoord
    rw [dif_pos (by decide)]
    simp only [Nat.zero_add]
    rfl

/-- A small word read as a signed number. -/
theorem toInt_small {w : BitVec 32} (h : w.toNat < 2147483648) : w.toInt = w.toNat := by
  rw [BitVec.toInt_eq_toNat_cond]
  split
  · rfl
  · omega

/-- A small word is not below zero. -/
theorem slt_zero {w : BitVec 32} (h : w.toNat < 2147483648) : IntOp.cmpi .slt w 0#32 = 0#1 := by
  have e : w.slt 0#32 = false := by
    unfold BitVec.slt
    rw [toInt_small h]
    simp
  show BitVec.ofBool (w.slt 0#32) = 0#1
  rw [e]; rfl

/-- A small word is at least zero. -/
theorem sge_zero {w : BitVec 32} (h : w.toNat < 2147483648) : IntOp.cmpi .sge w 0#32 = 1#1 := by
  have e : (0#32).sle w = true := by
    unfold BitVec.sle
    rw [toInt_small h]
    simp
  show BitVec.ofBool ((0#32).sle w) = 1#1
  rw [e]; rfl

/-- A word below 8192 is at most 8191. -/
theorem sle_last {w : BitVec 32} (h : w.toNat < 8192) : IntOp.cmpi .sle w 8191#32 = 1#1 := by
  have e : w.sle 8191#32 = true := by
    unfold BitVec.sle
    rw [toInt_small (by omega)]
    have : (8191#32 : BitVec 32).toInt = 8191 := by decide
    rw [this]
    simp
    omega
  show BitVec.ofBool (w.sle 8191#32) = 1#1
  rw [e]; rfl

/-- A key's row: its place in the batch after the batch's start. -/
theorem add_small (a : BitVec 32) (b : ℕ) (ha : a.toNat < 1024) (hb : b < 8) : (IntOp.addi a (BitVec.ofNat 32 (1024 * b))).toNat = 1024 * b + a.toNat := by
  show (a + BitVec.ofNat 32 (1024 * b)).toNat = _
  rw [BitVec.toNat_add, BitVec.toNat_ofNat]
  omega

variable (V0 : Valuation τ sig (Elt Ideal))

/-- Every index is valid. -/
theorem v24_apply (h2 : ∀ i, (V0 (Proc.devRef .tc main_arg2) i : BitVec 32).toNat < 1024) (n : Fin 2048) (l : Fin 32) : res_main_v24 V0 (ix2 n l) = 1#1 := by
  unfold res_main_v24
  pointwise
  exact sge_zero (lt_trans (h2 _) (by norm_num))

/-- The row a query's list entry names. -/
theorem v28_apply (h2 : ∀ i, (V0 (Proc.devRef .tc main_arg2) i : BitVec 32).toNat < 1024) (h4 : ∀ i, V0 (Proc.devRef .tc main_arg4) i = 1024#32)
    (h5 : ∀ n : Fin 2048, V0 (Proc.devRef .tc main_arg5) (ix1 n) = BitVec.ofNat 32 (n.val / 256)) (n : Fin 2048) (l : Fin 32) :
    (res_main_v28 V0 (ix2 n l) : BitVec 32).toNat = 1024 * (n.val / 256) + (V0 (Proc.devRef .tc main_arg2) (ix2 n l) : BitVec 32).toNat := by
  have e4 : V0 (Proc.devRef .tc main_arg4) = fun _ => 1024#32 := funext h4
  have hn : n.val / 256 < 8 := by omega
  have hw : (BitVec.ofNat 32 (n.val / 256)).toNat = n.val / 256 := by simp; omega
  unfold res_main_v28
  rw [e4]
  pointwise
  rw [v24_apply V0 h2, gather8_apply _ _ n ⟨n.val / 256, hn⟩ ?_]
  · refine (congrArg (fun w => (IntOp.addi _ w).toNat) (starts ⟨n.val / 256, hn⟩)).trans ?_
    exact add_small _ _ (h2 _) hn
  · pointwise
    rw [h5, slt_zero (by omega)]
    show (BitVec.ofNat 32 (n.val / 256)).toInt.toNat = _
    rw [toInt_small (by omega), hw]
    rfl

end Cert.Proof.Value.Ref

end
-- ==== Proof.Value.Ref.lean ====
/-
  The reference's intermediate arrays, entry by entry.
-/
module

public import proofs.«01_k».proof.Proof.Value.RefIdx
public import proofs.«01_k».proof.Proof.Value.Math

@[expose] public section

set_option maxRecDepth 16384

noncomputable section

namespace Cert.Proof.Value.Ref

open Cert.ReferenceIdeal Cert.ReferenceIdeal.Gen Cert.ReferenceIdeal.Value
open Idealize.ShloMosaic Idealize.ShloMosaic.TcCoe

/-- Folding `and` over ones gives one. -/
theorem fold_andi_one {ι : Type*} (s : Finset ι) (f : ι → BitVec 1) (h : ∀ i, f i = 1#1) : s.fold IntOp.andi (1#1) f = 1#1 := by
  classical
  induction s using Finset.induction_on with
  | empty => rfl
  | insert a s ha ih => rw [Finset.fold_insert ha, ih, h]; rfl

/-- Folding over one row of the scores. -/
theorem fold_row (b : EReal) (f : S2048x8x32.Idx → EReal) (n : Fin 2048) (h : Fin 8) :
    Finset.fold max b f (Finset.univ.filter fun i => reducesTo_S2048x8x32_S2048x8_d2.drop i = ix2 n h) = Finset.univ.fold max b fun l : Fin 32 => f (ix3 n h l) := by
  have hr : S2048x8x32.Reduces [2] S2048x8 := by decide
  rw [Shape.ReducesTo.drop_eq_drop reducesTo_S2048x8x32_S2048x8_d2 hr]
  refine (hr.fold_filter_drop_single max b f (ix2 n h)).trans ?_
  have e : ∀ l : Fin 32, hr.lift (ix2 n h) l = ix3 n h l := fun l => by
    funext q
    match q with
    | ⟨0, _⟩ => rfl
    | ⟨1, _⟩ => rfl
    | ⟨2, _⟩ => rfl
  exact congrArg (fun g => Finset.univ.fold max b g) (funext fun l => congrArg f (e l))

variable (V0 : Valuation τ sig (Elt Ideal))

/-- What the argument values must satisfy: key indices below 1024, 1024 keys a batch, query rows grouped 256 a batch. -/
structure Ok : Prop where
  h2 : ∀ i, (V0 (Proc.devRef .tc main_arg2) i : BitVec 32).toNat < 1024
  h4 : ∀ i, V0 (Proc.devRef .tc main_arg4) i = 1024#32
  h5 : ∀ n : Fin 2048, V0 (Proc.devRef .tc main_arg5) (ix1 n) = BitVec.ofNat 32 (n.val / 256)

variable {V0} (ok : Ok V0)
include ok

/-- The key a query's list entry names. -/
def idx (n : Fin 2048) (l : Fin 32) : Fin 1024 := ⟨(V0 (Proc.devRef .tc main_arg2) (ix2 n l) : BitVec 32).toNat, ok.h2 _⟩

theorem call2_apply (n : Fin 2048) (l : Fin 32) : (res_main_call2_v5 V0 (ix3 n l 0) : BitVec 32).toNat = (keyRow n (idx ok n l)).val := by
  have h := v28_apply V0 ok.h2 ok.h4 ok.h5 n l
  have h2 := ok.h2 (ix2 n l)
  unfold res_main_call2_v5
  pointwise
  rw [slt_zero (by omega)]
  exact h

theorem call3_eq : res_main_call3_v5 V0 = res_main_call2_v5 V0 := rfl

/-- Every position's row is in range. -/
theorem inRange (x : S2048x32x1.Idx) : IntOp.andi (IntOp.cmpi CmpIPredicate.sge (res_main_call2_v5 V0 x) 0#32) (IntOp.cmpi CmpIPredicate.sle (res_main_call2_v5 V0 x) 8191#32) = 1#1 := by
  obtain ⟨n, l, rfl⟩ : ∃ (n : Fin 2048) (l : Fin 32), x = ix3 n l 0 := ⟨x 0, x 1, by
    funext q
    match q with
    | ⟨0, _⟩ => rfl
    | ⟨1, _⟩ => rfl
    | ⟨2, _⟩ => exact Subsingleton.elim (α := Fin 1) _ _⟩
  have h := call2_apply ok n l
  have hk := (keyRow n (idx ok n l)).isLt
  rw [sge_zero (by omega), sle_last (by omega)]
  rfl

/-- Taking the listed rows of a table. -/
theorem take_apply (x : S8192x512.Idx → EReal) (n : Fin 2048) (l : Fin 32) (e : Fin 512) :
    (select (broadcastInDim S2048x32x512 ![0, 1] bcast_S2048x32_S2048x32x512_0_1 (Host.reduce IntOp.andi (andi (cmpi .sge (res_main_call2_v5 V0) (broadcastInDim S2048x32x1 ![] bcast_S_S2048x32x1 (constantI S_ 32 0#32))) (cmpi .sle (res_main_call2_v5 V0) (broadcastInDim S2048x32x1 ![0, 1, 2] bcast_S1x1x1_S2048x32x1_0_1_2 (broadcastInDim S1x1x1 ![2] bcast_S1_S1x1x1_2 (constantI S1 32 8191#32))))) (constantI S_ 1 1#1) reducesTo_S2048x32x1_S2048x32_d2 h_S_)) (Host.gather gather_S8192x512_S2048x32x1_S2048x32x512_2_0_n_n_0_2_1512 x (res_main_call2_v5 V0)) (broadcastInDim S2048x32x512 ![] bcast_S_S2048x32x512 (constant (F := Ideal) S_ .f32 0x7FC00000#32)) : S2048x32x512.Idx → EReal) (ix3 n l e)
      = x (ix2 (keyRow n (idx ok n l)) e) := by
  pointwise
  refine (congrArg (fun w => Scalar.select w _ _) (fold_andi_one _ _ (inRange ok))).trans ?_
  refine gatherRows_apply x _ n l e (keyRow n (idx ok n l)) ?_
  have h := call2_apply ok n l
  have hk := (keyRow n (idx ok n l)).isLt
  rw [toInt_small (by omega), h]
  rfl

/-- Taking the listed rows of a table, as a whole array. -/
theorem take_eq (x : S8192x512.Idx → EReal) :
    (select (broadcastInDim S2048x32x512 ![0, 1] bcast_S2048x32_S2048x32x512_0_1 (Host.reduce IntOp.andi (andi (cmpi .sge (res_main_call2_v5 V0) (broadcastInDim S2048x32x1 ![] bcast_S_S2048x32x1 (constantI S_ 32 0#32))) (cmpi .sle (res_main_call2_v5 V0) (broadcastInDim S2048x32x1 ![0, 1, 2] bcast_S1x1x1_S2048x32x1_0_1_2 (broadcastInDim S1x1x1 ![2] bcast_S1_S1x1x1_2 (constantI S1 32 8191#32))))) (constantI S_ 1 1#1) reducesTo_S2048x32x1_S2048x32_d2 h_S_)) (Host.gather gather_S8192x512_S2048x32x1_S2048x32x512_2_0_n_n_0_2_1512 x (res_main_call2_v5 V0)) (broadcastInDim S2048x32x512 ![] bcast_S_S2048x32x512 (constant (F := Ideal) S_ .f32 0x7FC00000#32)) : S2048x32x512.Idx → EReal) = fun i => x (ix2 (keyRow (i 0) (idx ok (i 0) (i 1))) (i 2)) := by
  funext i
  obtain ⟨n, l, e, rfl⟩ : ∃ (n : Fin 2048) (l : Fin 32) (e : Fin 512), i = ix3 n l e := ⟨i 0, i 1, i 2, by
    funext q
    match q with
    | ⟨0, _⟩ => rfl
    | ⟨1, _⟩ => rfl
    | ⟨2, _⟩ => rfl⟩
  exact take_apply ok x n l e

/-- The projected queries of a row. -/
def qRow (V0 : Valuation τ sig (Elt Ideal)) (n : Fin 2048) : Fin 512 → EReal := proj (mat (V0 (Proc.devRef .tc main_arg0)) n) (mat (V0 (Proc.devRef .tc main_arg6))) (vec (V0 (Proc.devRef .tc main_arg7)))

/-- The projected keys a row's list names. -/
def kRow (n : Fin 2048) (l : Fin 32) : Fin 512 → EReal := proj (mat (V0 (Proc.devRef .tc main_arg1)) (keyRow n (idx ok n l))) (mat (V0 (Proc.devRef .tc main_arg8))) (vec (V0 (Proc.devRef .tc main_arg9)))

/-- The projected values a row's list names. -/
def vRow (n : Fin 2048) (l : Fin 32) : Fin 512 → EReal := proj (mat (V0 (Proc.devRef .tc main_arg1)) (keyRow n (idx ok n l))) (mat (V0 (Proc.devRef .tc main_arg10))) (vec (V0 (Proc.devRef .tc main_arg11)))

omit ok in
/-- A head's column, the other way round. -/
theorem col_comm (h : Fin 8) (d : Fin 64) (p : h.val * 64 + d.val < 512) : (⟨h.val * 64 + d.val, p⟩ : Fin 512) = col h d :=
  Fin.ext (by show h.val * 64 + d.val = 64 * h.val + d.val; omega)

/-- The reference's scores, numbers by row, head and place. -/
def s38 (V0 : Valuation τ sig (Elt Ideal)) (n : Fin 2048) (h : Fin 8) (l : Fin 32) : EReal := res_main_v38 V0 (ix3 n h l)

/-- The reference's exponentials. -/
def s45 (V0 : Valuation τ sig (Elt Ideal)) (n : Fin 2048) (h : Fin 8) (l : Fin 32) : EReal := res_main_v45 V0 (ix3 n h l)

/-- The first residual sum. -/
def x56 (V0 : Valuation τ sig (Elt Ideal)) (n : Fin 2048) (e : Fin 512) : EReal := res_main_v56 V0 (ix2 n e)

/-- The first normalised rows. -/
def x74 (V0 : Valuation τ sig (Elt Ideal)) (n : Fin 2048) (e : Fin 512) : EReal := res_main_v74 V0 (ix2 n e)

/-- The second residual sum. -/
def x84 (V0 : Valuation τ sig (Elt Ideal)) (n : Fin 2048) (e : Fin 512) : EReal := res_main_v84 V0 (ix2 n e)

/-- The scores: the rows' products over eight. -/
theorem s38_eq (n : Fin 2048) (h : Fin 8) (l : Fin 32) :
    s38 V0 n h l = Ideal.div (score (qRow V0 n) (kRow ok n l) h) (Ideal.ofBits .f32 0x41000000#32) := by
  unfold s38 res_main_v38
  rw [take_eq ok]
  pointwise
  refine (congrArg (fun w => Scalar.select w _ _) (v24_apply V0 ok.h2 n l)).trans ?_
  refine congrArg (fun w => Ideal.div w _) (Finset.sum_congr rfl fun d _ => ?_)
  have p : h.val * 64 + d.val < 512 := by omega
  show qRow V0 n ⟨h.val * 64 + d.val, p⟩ * kRow ok n l ⟨h.val * 64 + d.val, p⟩ = _
  rw [col_comm]

omit ok in
/-- The exponentials of the scores less their greatest. -/
theorem s45_eq (n : Fin 2048) (h : Fin 8) (l : Fin 32) : s45 V0 n h l = Ideal.exp (s38 V0 n h l - top (s38 V0 n h)) := by
  have hb : Ideal.ofBits .f32 0xFF800000#32 = (⊥ : EReal) := by simp [Ideal.ofBits, Ideal.ieee]
  unfold s45 res_main_v45
  pointwise
  refine congrArg (fun w => Ideal.exp (s38 V0 n h l - w)) ?_
  rw [hb]
  refine (max_eq_right bot_le).trans ?_
  exact fold_row ⊥ (res_main_v38 V0) n h

/-- The reference's first residual sum. -/
theorem x56_eq (n : Fin 2048) (e : Fin 512) :
    x56 V0 n e = mat (V0 (Proc.devRef .tc main_arg0)) n e + proj (attR (qRow V0 n) (kRow ok n) (vRow ok n)) (mat (V0 (Proc.devRef .tc main_arg12))) (vec (V0 (Proc.devRef .tc main_arg13))) e := by
  have hs : ∀ h, s38 V0 n h = fun l => Ideal.div (score (qRow V0 n) (kRow ok n l) h) (Ideal.ofBits .f32 0x41000000#32) := fun h => funext fun l => s38_eq ok n h l
  have ha : attR (qRow V0 n) (kRow ok n) (vRow ok n) = fun c => ∑ l, Ideal.div (s45 V0 n (hd c) l) (∑ i, s45 V0 n (hd c) i) * vRow ok n l c := by
    funext c
    simp only [s45_eq, hs]
    rfl
  rw [ha]
  unfold x56 res_main_v56
  rw [call3_eq ok, take_eq ok]
  pointwise
  rfl

omit ok

/-- The number of a row's elements, as the reference computes it. -/
theorem count5 (V0 : Valuation τ sig (Elt Ideal)) : (res_main_call5_v8 V0 ix0 : EReal) = c512 := by
  unfold res_main_call5_v8
  pointwise
  show c512 - (((0 : ℤ) : ℝ) : EReal) = c512
  simp

/-- The number of a row's elements, the second time. -/
theorem count7 (V0 : Valuation τ sig (Elt Ideal)) : (res_main_call7_v8 V0 ix0 : EReal) = c512 := count5 V0

/-- The first centred rows. -/
theorem cen5 (V0 : Valuation τ sig (Elt Ideal)) (n : Fin 2048) (e : Fin 512) : (res_main_call5_v5 V0 (ix2 n e) : EReal) = cen (x56 V0 n) e := by
  unfold res_main_call5_v5
  pointwise
  rfl

/-- The second centred rows. -/
theorem cen7 (V0 : Valuation τ sig (Elt Ideal)) (n : Fin 2048) (e : Fin 512) : (res_main_call7_v5 V0 (ix2 n e) : EReal) = cen (x84 V0 n) e := by
  unfold res_main_call7_v5
  pointwise
  rfl

/-- A positive number. -/
theorem c512_pos : (0 : EReal) < c512 := by
  rw [c512_eq]; exact EReal.coe_pos.2 (by norm_num)

/-- The first normalised rows. -/
theorem x74_eq (V0 : Valuation τ sig (Elt Ideal)) (n : Fin 2048) (e : Fin 512) : x74 V0 n e = ln (x56 V0 n) (vec (V0 (Proc.devRef .tc main_arg18))) (vec (V0 (Proc.devRef .tc main_arg19))) e := by
  unfold x74 res_main_v74
  pointwise
  simp only [count5, cen5]
  rw [if_pos c512_pos]
  rfl

/-- The second residual sum. -/
theorem x84_eq (V0 : Valuation τ sig (Elt Ideal)) (n : Fin 2048) (e : Fin 512) : x84 V0 n e
    = x74 V0 n e + proj (fun j => max (proj (x74 V0 n) (mat (V0 (Proc.devRef .tc main_arg14))) (vec (V0 (Proc.devRef .tc main_arg15))) j) 0) (mat (V0 (Proc.devRef .tc main_arg16))) (vec (V0 (Proc.devRef .tc main_arg17))) e := by
  unfold x84 res_main_v84
  pointwise
  rfl

end Cert.Proof.Value.Ref

end
-- ==== Proof.Value.RefSide.lean ====
/-
  The reference's result is the layer.
-/
module

public import proofs.«01_k».proof.Proof.Value.Ref

@[expose] public section

set_option maxRecDepth 16384

noncomputable section

namespace Cert.Proof.Value.Ref

open Cert.ReferenceIdeal Cert.ReferenceIdeal.Gen Cert.ReferenceIdeal.Value
open Idealize.ShloMosaic Idealize.ShloMosaic.TcCoe

/-- The reference's result, from the arguments. -/
def result (V0 : Valuation τ sig (Elt Ideal)) : S2048x512.Idx → EReal :=
  addf (mulf (Host.divf (subf (res_main_v84 V0) (broadcastInDim S2048x512 ![0, 1] bcast_S2048x1_S2048x512_0_1 (Host.divf (broadcastInDim S2048x1 ![0] bcast_S2048_S2048x1_0 (Host.reduceAdd (res_main_v84 V0) (constant (F := Ideal) S_ .f32 0x00000000#32) reducesTo_S2048x512_S2048_d1 h_S_)) (broadcastInDim S2048x1 ![] bcast_S_S2048x1 (constant (F := Ideal) S_ .f32 0x44000000#32))))) (broadcastInDim S2048x512 ![0, 1] bcast_S2048x1_S2048x512_0_1 (Host.sqrt (addf (select (broadcastInDim S2048x1 ![] bcast_S_S2048x1 (cmpf .ogt (res_main_call7_v8 V0) (constant (F := Ideal) S_ .f32 0x00000000#32))) (Host.divf (broadcastInDim S2048x1 ![0] bcast_S2048_S2048x1_0 (Host.reduceAdd (mulf (res_main_call7_v5 V0) (res_main_call7_v5 V0)) (constant (F := Ideal) S_ .f32 0x00000000#32) reducesTo_S2048x512_S2048_d1 h_S_)) (broadcastInDim S2048x1 ![] bcast_S_S2048x1 (res_main_call7_v8 V0))) (broadcastInDim S2048x1 ![] bcast_S_S2048x1 (id (constant (F := Ideal) S_ .f32 0x7FC00000#32)))) (broadcastInDim S2048x1 ![] bcast_S_S2048x1 (constant (F := Ideal) S_ .f32 0x3727C5AC#32)))))) (broadcastInDim S2048x512 ![0, 1] bcast_S1x512_S2048x512_0_1 (broadcastInDim S1x512 ![1] bcast_S512_S1x512_1 (V0 (Proc.devRef .tc main_arg20))))) (broadcastInDim S2048x512 ![0, 1] bcast_S1x512_S2048x512_0_1 (broadcastInDim S1x512 ![1] bcast_S512_S1x512_1 (V0 (Proc.devRef .tc main_arg21))))

variable {V0 : Valuation τ sig (Elt Ideal)} (ok : Ok V0)
include ok

omit ok in
/-- The reference's last normalisation. -/
theorem last_eq (n : Fin 2048) (e : Fin 512) :
    result V0 (ix2 n e) = ln (x84 V0 n) (vec (V0 (Proc.devRef .tc main_arg20))) (vec (V0 (Proc.devRef .tc main_arg21))) e := by
  unfold result
  pointwise
  simp only [count7, cen7]
  rw [if_pos c512_pos]
  rfl

/-- The rows before the last normalisation and after it. -/
theorem tail_eq (n : Fin 2048) (e : Fin 512) : ln (x84 V0 n) (vec (V0 (Proc.devRef .tc main_arg20))) (vec (V0 (Proc.devRef .tc main_arg21))) e = layer (V0 (Proc.devRef .tc main_arg0)) (V0 (Proc.devRef .tc main_arg1)) (idx ok) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) n e := by
  have h74 : x74 V0 n = ln (x56 V0 n) (vec (V0 (Proc.devRef .tc main_arg18))) (vec (V0 (Proc.devRef .tc main_arg19))) := funext fun e => x74_eq V0 n e
  have h56 : x56 V0 n = fun e => mat (V0 (Proc.devRef .tc main_arg0)) n e + proj (attR (qRow V0 n) (kRow ok n) (vRow ok n)) (mat (V0 (Proc.devRef .tc main_arg12))) (vec (V0 (Proc.devRef .tc main_arg13))) e := funext fun e => x56_eq ok n e
  have h84 : x84 V0 n = fun e => x74 V0 n e + proj (fun j => max (proj (x74 V0 n) (mat (V0 (Proc.devRef .tc main_arg14))) (vec (V0 (Proc.devRef .tc main_arg15))) j) 0) (mat (V0 (Proc.devRef .tc main_arg16))) (vec (V0 (Proc.devRef .tc main_arg17))) e := funext fun e => x84_eq V0 n e
  rw [h84, h74, h56]
  rfl

/-- The reference's result. -/
theorem result_layer :
    result V0 = fun i => layer (V0 (Proc.devRef .tc main_arg0)) (V0 (Proc.devRef .tc main_arg1)) (idx ok) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (i 0) (i 1) := by
  funext i
  obtain ⟨n, e, rfl⟩ : ∃ (n : Fin 2048) (e : Fin 512), i = ix2 n e := ⟨i 0, i 1, by
    funext q
    match q with
    | ⟨0, _⟩ => rfl
    | ⟨1, _⟩ => rfl⟩
  exact (last_eq n e).trans (tail_eq ok n e)

end Cert.Proof.Value.Ref

end
-- ==== Proof.Value.Final.lean ====
/-
  The kernel's result and the reference's are one array.
-/
module

public import proofs.«01_k».proof.Proof.Pre
public import proofs.«01_k».proof.Proof.Value.KernelSide
public import proofs.«01_k».proof.Proof.Value.RefSide

@[expose] public section

set_option maxRecDepth 16384

noncomputable section

namespace Cert.Proof.Value

open Idealize.ShloMosaic Idealize.ShloMosaic.TcCoe

/-- The layer depends on its inputs. -/
theorem layer_congr {a0 b0 : (⟨2, ![2048, 512]⟩ : Shape).Idx → EReal} {a1 b1 : (⟨2, ![8192, 512]⟩ : Shape).Idx → EReal} {K K' : Fin 2048 → Fin 32 → Fin 1024}
    {a6 b6 a8 b8 a10 b10 a12 b12 : (⟨2, ![512, 512]⟩ : Shape).Idx → EReal} {a14 b14 : (⟨2, ![512, 2048]⟩ : Shape).Idx → EReal} {a15 b15 : (⟨1, ![2048]⟩ : Shape).Idx → EReal}
    {a16 b16 : (⟨2, ![2048, 512]⟩ : Shape).Idx → EReal} {a7 b7 a9 b9 a11 b11 a13 b13 a17 b17 a18 b18 a19 b19 a20 b20 a21 b21 : (⟨1, ![512]⟩ : Shape).Idx → EReal}
    (hK : K = K') (h0 : a0 = b0) (h1 : a1 = b1) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) :
    layer a0 a1 K a6 a7 a8 a9 a10 a11 a12 a13 a14 a15 a16 a17 a18 a19 a20 a21 = layer b0 b1 K' b6 b7 b8 b9 b10 b11 b12 b13 b14 b15 b16 b17 b18 b19 b20 b21 := by
  subst hK h0 h1 h6 h7 h8 h9 h10 h11 h12 h13 h14 h15 h16 h17 h18 h19 h20 h21; rfl

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)

/-- From equal arguments that satisfy the precondition, the reference's result is the kernel's. -/
theorem result_eq (c : Dev Cert.KernelIdeal.nD)
    (hr : Pre.Read (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (hargs : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Ref.result (StableHlo.launchContents m' c) = Ki.outArr m c := by
  obtain ⟨g0, g1, g2, g3, g4, g5, g6, g7, g8, g9, g10, g11, g12, g13, g14, g15, g16, g17, g18, g19, g20, g21⟩ := hargs
  have ok : Ref.Ok (StableHlo.launchContents m' c) := ⟨fun i => (congrArg (fun a : IVec Cert.ReferenceIdeal.S2048x32 32 => (a i).toNat) g2).trans_lt (hr.idx i),
    fun i => (congrFun g4 i).trans (hr.cnt i), fun n => (congrFun g5 (ix1 n)).trans ((congrArg (m ((c.tc : Thread Cert.KernelIdeal.nD Cert.KernelIdeal.τ).loc Cert.KernelIdeal.main_arg5)) (ix1_eq_valueIdx n)).trans (hr.batch n))⟩
  rw [Ref.result_layer ok, out_layer m c (fun n l => hr.idx (ix2 n l)) (fun i => Pre.finite (hr.f1 i)) (fun i => Pre.finite (hr.f6 i)) (fun i => Pre.finite (hr.f7 i)) (fun i => Pre.finite (hr.f8 i)) (fun i => Pre.finite (hr.f9 i))]
  funext i
  refine congrFun (congrFun (layer_congr (funext fun n => funext fun l => Fin.ext (congrArg (fun a : IVec Cert.ReferenceIdeal.S2048x32 32 => (a (ix2 n l)).toNat) g2)) g0 g1 g6 g7 g8 g9 g10 g11 g12 g13 g14 g15 g16 g17 g18 g19 g20 g21) _) _

end Cert.Proof.Value

end
-- ==== Proof.lean ====
/-
  The claims: the kernel as printed and over the reals leaves its arguments and semaphores as they were, the reference
  does, the two kernels are the same program, and the kernel computes what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_drawn
public import Idealize.ShloMosaic.Adequacy
public import Idealize.ShloMosaic.Init
public import proofs.«01_k».proof.Proof.Pre
public import proofs.«01_k».proof.Proof.Ki.Frame
public import proofs.«01_k».proof.Proof.Kb.Frame
public import proofs.«01_k».proof.Proof.Value.Final

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_drawn.Facts := Cert.Pre_drawn.Gen.facts
instance : Cert.Pre_listed.Facts := Pre.listed_facts

/-- The kernel as printed leaves its arguments as they were and its semaphores at zero. -/
theorem frame_Kernel : Cert.quiescent_Kernel := fun m g hpre => by
  refine (θ_run _ _ _).mono (fun r hr => ?_) (Kb.run_args m g fun d i =>
    Pre.readListed _ _ _ _ _ _ _ _ _ _ _ _ _ _ _ _ _ _ _ _ _ _ (hpre d) i)
  exact ⟨fun c => ⟨hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide)⟩, hr.2⟩

/-- The kernel over the reals leaves its arguments as they were and its semaphores at zero. -/
theorem frame_KernelIdeal : Cert.quiescent_KernelIdeal := fun m g hpre => by
  refine (θ_run _ _ _).mono (fun r hr => ?_) (Ki.run_args m g fun d i =>
    Pre.readListed _ _ _ _ _ _ _ _ _ _ _ _ _ _ _ _ _ _ _ _ _ _ (hpre d) i)
  exact ⟨fun c => ⟨hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide)⟩, hr.2⟩

/-- The reference leaves its arguments as they were and its semaphores at zero. -/
theorem frame_ReferenceIdeal : Cert.quiescent_ReferenceIdeal := fun m g _ =>
  (θ_run _ _ _).mono (fun r h => ⟨fun c => (h c).2,
    Idealize.ShloMosaic.sem_eq_zero_of_no_sems (by decide) r.2⟩)
    (Cert.ReferenceIdeal.Value.run (F := Ideal) m g)

/-- So it does under the value claim's precondition. -/
theorem frame_ReferenceIdeal_drawn : Cert.quiescent_ReferenceIdeal_pre_drawn := fun m g _ => frame_ReferenceIdeal m g trivial

/-- So does the kernel over the reals. -/
theorem frame_KernelIdeal_drawn : Cert.quiescent_KernelIdeal_pre_drawn := fun m g hpre => by
  refine (θ_run _ _ _).mono (fun r hr => ?_) (Ki.run_args m g fun d i =>
    (Pre.read _ _ _ _ _ _ _ _ _ _ _ _ _ _ _ _ _ _ _ _ _ _ (hpre d)).idx i)
  exact ⟨fun c => ⟨hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide)⟩, hr.2⟩

/-- The kernel over the reals and the reference end with the same result. -/
theorem alg : Cert.algebraic_KernelIdeal_ReferenceIdeal_pre_drawn := fun m g m' g' hpre hargs => by
  refine ⟨fun c => Ki.outArr m c, ?_, ?_⟩
  · refine (θ_run _ _ _).mono (fun r hr c => ?_) (Ki.run_args m g fun d i =>
      (Pre.read _ _ _ _ _ _ _ _ _ _ _ _ _ _ _ _ _ _ _ _ _ _ (hpre d)).idx i)
    exact ⟨hr.1.1 c, hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide), hr.1.2 c _ (by decide)⟩
  · refine (θ_run _ _ _).mono (fun r hr c => ?_) (Cert.ReferenceIdeal.Value.run (F := Ideal) m' g')
    exact ⟨(hr c).1.trans (Value.result_eq m m' c (Pre.read _ _ _ _ _ _ _ _ _ _ _ _ _ _ _ _ _ _ _ _ _ _ (hpre c)) (hargs c)), (hr c).2⟩

/-- Everything claimed. -/
theorem claim : Cert.Claim := ⟨Cert.Kernel.Gen.facts, Cert.KernelIdeal.Gen.facts, Cert.ReferenceIdeal.Gen.facts, Pre.listed_facts, Cert.Pre_drawn.Gen.facts,
  frame_Kernel, frame_KernelIdeal, frame_KernelIdeal_drawn, frame_ReferenceIdeal, frame_ReferenceIdeal_drawn, trivial, alg⟩

end Cert.Proof

end
